-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x8192 : Shape := ⟨2, ![4096, 8192]⟩
abbrev S500000x2 : Shape := ⟨2, ![500000, 2]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel

variable [Facts]

def fn {F : FTy → Type} [FloatOps F] (main_arg0 : FVec F S4096x8192 .f32) (main_arg1 : IVec S500000x2 32) : IVec S_ 1 :=
  let main_c : IVec S_ 32 := constantI S_ 32 0#32
  let main_v0 : IVec S500000x2 32 := broadcastInDim S500000x2 ![] bcast_S_S500000x2 main_c
  let main_v1 : IVec S500000x2 1 := cmpi .sge main_arg1 main_v0
  let main_c_0 : IVec S_ 32 := constantI S_ 32 4096#32
  let main_v2 : IVec S500000x2 32 := broadcastInDim S500000x2 ![] bcast_S_S500000x2 main_c_0
  let main_v3 : IVec S500000x2 1 := cmpi .slt main_arg1 main_v2
  let main_v4 : IVec S500000x2 1 := andi main_v1 main_v3
  let main_c_1 : IVec S_ 1 := constantI S_ 1 1#1
  let main_v5 : IVec S_ 1 := (fun x v => Host.reduce IntOp.andi x v reducesTo_S500000x2_S_d0_1 h_S_) main_v4 main_c_1
  main_v5
-- ==== Kernel.lean ====
abbrev S4096x8192 : Shape := ⟨2, ![4096, 8192]⟩
abbrev S500000x2 : Shape := ⟨2, ![500000, 2]⟩
abbrev S512x8x64x128 : Shape := ⟨4, ![512, 8, 64, 128]⟩
abbrev S512x64x8x128 : Shape := ⟨4, ![512, 64, 8, 128]⟩
abbrev S33554432 : Shape := ⟨1, ![33554432]⟩
abbrev S500000x1 : Shape := ⟨2, ![500000, 1]⟩
abbrev S500000 : Shape := ⟨1, ![500000]⟩
abbrev S_ : Shape := ⟨0, ![]⟩
abbrev S15680 : Shape := ⟨1, ![15680]⟩
abbrev S16 : Shape := ⟨1, ![16]⟩
abbrev S3920 : Shape := ⟨1, ![3920]⟩

abbrev nBuf : Table → Nat
  | .hbm => 14
  | .local .scVector .vmem => 2
  | _ => 0

abbrev bufTy : (tb : Table) → Fin (nBuf tb) → BufTy
  | .hbm, ⟨0, _⟩ => ⟨S4096x8192, .f32⟩
  | .hbm, ⟨1, _⟩ => ⟨S500000x2, .i32⟩
  | .hbm, ⟨2, _⟩ => ⟨S512x8x64x128, .f32⟩
  | .hbm, ⟨3, _⟩ => ⟨S512x64x8x128, .f32⟩
  | .hbm, ⟨4, _⟩ => ⟨S33554432, .f32⟩
  | .hbm, ⟨5, _⟩ => ⟨S500000x1, .i32⟩
  | .hbm, ⟨6, _⟩ => ⟨S500000, .i32⟩
  | .hbm, ⟨7, _⟩ => ⟨S_, .i32⟩
  | .hbm, ⟨8, _⟩ => ⟨S500000, .i32⟩
  | .hbm, ⟨9, _⟩ => ⟨S500000, .i32⟩
  | .hbm, ⟨10, _⟩ => ⟨S500000x1, .i32⟩
  | .hbm, ⟨11, _⟩ => ⟨S500000, .i32⟩
  | .hbm, ⟨12, _⟩ => ⟨S500000, .i32⟩
  | .hbm, ⟨13, _⟩ => ⟨S500000, .f32⟩
  | .local .scVector .vmem, ⟨0, _⟩ => ⟨S15680, .i32⟩
  | .local .scVector .vmem, ⟨1, _⟩ => ⟨S15680, .f32⟩
  | _, _ => ⟨S4096x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v2_scv : Ref sig .scVector := ⟨.hbm, 4, rfl⟩
abbrev main_v9_scv : Ref sig .scVector := ⟨.hbm, 12, rfl⟩
abbrev main_v10_scv : Ref sig .scVector := ⟨.hbm, 13, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15680_i32 : BitVec 32 := 15680#32
  let v2 : BitVec 32 := Scalar.muli v1 c15680_i32
  let c484320_i32 : BitVec 32 := 484320#32
  let v3 : BitVec 32 := Scalar.minsi v2 c484320_i32
  v3
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15680_i32 : BitVec 32 := 15680#32
  let v2 : BitVec 32 := Scalar.muli v1 c15680_i32
  let c484320_i32 : BitVec 32 := 484320#32
  let v3 : BitVec 32 := Scalar.minsi v2 c484320_i32
  let v4 : BitVec 32 := v3
  ![v4.toNat]
@[reducible] def k0_t1_loop : Scf.Loop 32 :=
  let c0_i32_0 : BitVec 32 := 0#32
  let c245_i32 : BitVec 32 := 245#32
  let v5 : BitVec 32 := Scalar.addi c0_i32_0 c245_i32
  let c1_i32 : BitVec 32 := 1#32
  ⟨c0_i32_0, v5, c1_i32⟩
def k0_off2 (k0_t1 : Fin k0_t1_loop.trips) : Fin 1 → Nat :=
  let c0_i32_38 : BitVec 32 := 0#32
  let c0_i32_0 : BitVec 32 := 0#32
  let c1_i32 : BitVec 32 := 1#32
  let arg8 : BitVec 32 := Scf.iv c0_i32_0 c1_i32 k0_t1
  let c16_i32 : BitVec 32 := 16#32
  let v33 : BitVec 32 := Scalar.muli arg8 c16_i32
  let v34 : BitVec 32 := Scalar.addi c0_i32_38 v33
  let v35 : Index := Scalar.indexCast v34
  ![v35.toNat]
@[reducible] def k0_t2_loop : Scf.Loop 32 :=
  let c0_i32_6 : BitVec 32 := 0#32
  let c245_i32_7 : BitVec 32 := 245#32
  let v9 : BitVec 32 := Scalar.addi c0_i32_6 c245_i32_7
  let c1_i32_8 : BitVec 32 := 1#32
  ⟨c0_i32_6, v9, c1_i32_8⟩
def k0_off3 (k0_t2 : Fin k0_t2_loop.trips) : Fin 1 → Nat :=
  let c3920_i32_38 : BitVec 32 := 3920#32
  let c0_i32_6 : BitVec 32 := 0#32
  let c1_i32_8 : BitVec 32 := 1#32
  let arg8 : BitVec 32 := Scf.iv c0_i32_6 c1_i32_8 k0_t2
  let c16_i32 : BitVec 32 := 16#32
  let v33 : BitVec 32 := Scalar.muli arg8 c16_i32
  let v34 : BitVec 32 := Scalar.addi c3920_i32_38 v33
  let v35 : Index := Scalar.indexCast v34
  ![v35.toNat]
@[reducible] def k0_t3_loop : Scf.Loop 32 :=
  let c0_i32_13 : BitVec 32 := 0#32
  let c245_i32_14 : BitVec 32 := 245#32
  let v13 : BitVec 32 := Scalar.addi c0_i32_13 c245_i32_14
  let c1_i32_15 : BitVec 32 := 1#32
  ⟨c0_i32_13, v13, c1_i32_15⟩
def k0_off4 (k0_t3 : Fin k0_t3_loop.trips) : Fin 1 → Nat :=
  let c7840_i32_38 : BitVec 32 := 7840#32
  let c0_i32_13 : BitVec 32 := 0#32
  let c1_i32_15 : BitVec 32 := 1#32
  let arg8 : BitVec 32 := Scf.iv c0_i32_13 c1_i32_15 k0_t3
  let c16_i32 : BitVec 32 := 16#32
  let v33 : BitVec 32 := Scalar.muli arg8 c16_i32
  let v34 : BitVec 32 := Scalar.addi c7840_i32_38 v33
  let v35 : Index := Scalar.indexCast v34
  ![v35.toNat]
@[reducible] def k0_t4_loop : Scf.Loop 32 :=
  let c0_i32_20 : BitVec 32 := 0#32
  let c245_i32_21 : BitVec 32 := 245#32
  let v17 : BitVec 32 := Scalar.addi c0_i32_20 c245_i32_21
  let c1_i32_22 : BitVec 32 := 1#32
  ⟨c0_i32_20, v17, c1_i32_22⟩
def k0_off5 (k0_t4 : Fin k0_t4_loop.trips) : Fin 1 → Nat :=
  let c11760_i32_38 : BitVec 32 := 11760#32
  let c0_i32_20 : BitVec 32 := 0#32
  let c1_i32_22 : BitVec 32 := 1#32
  let arg8 : BitVec 32 := Scf.iv c0_i32_20 c1_i32_22 k0_t4
  let c16_i32 : BitVec 32 := 16#32
  let v33 : BitVec 32 := Scalar.muli arg8 c16_i32
  let v34 : BitVec 32 := Scalar.addi c11760_i32_38 v33
  let v35 : Index := Scalar.indexCast v34
  ![v35.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x8192 : Shape := ⟨2, ![4096, 8192]⟩
abbrev S500000x2 : Shape := ⟨2, ![500000, 2]⟩
abbrev S_ : Shape := ⟨0, ![]⟩
abbrev S500000x1 : Shape := ⟨2, ![500000, 1]⟩
abbrev S500000 : Shape := ⟨1, ![500000]⟩

abbrev nBuf : Space → Nat
  | .hbm => 46
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S500000x2, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S500000x2, .i32⟩
  | .hbm, ⟨9, _⟩ => ⟨S500000x2, .i32⟩
  | .hbm, ⟨10, _⟩ => ⟨S_, .i32⟩
  | .hbm, ⟨11, _⟩ => ⟨S500000x2, .i32⟩
  | .hbm, ⟨12, _⟩ => ⟨S500000x2, .i1⟩
  | .hbm, ⟨13, _⟩ => ⟨S_, .i32⟩
  | .hbm, ⟨14, _⟩ => ⟨S500000x2, .i32⟩
  | .hbm, ⟨15, _⟩ => ⟨S500000x2, .i1⟩
  | .hbm, ⟨16, _⟩ => ⟨S_, .i32⟩
  | .hbm, ⟨17, _⟩ => ⟨S_, .i1⟩
  | .hbm, ⟨18, _⟩ => ⟨S500000x2, .i1⟩
  | .hbm, ⟨19, _⟩ => ⟨S500000x2, .i1⟩
  | .hbm, ⟨20, _⟩ => ⟨S500000x2, .i1⟩
  | .hbm, ⟨21, _⟩ => ⟨S500000x2, .i32⟩
  | .hbm, ⟨22, _⟩ => ⟨S500000x2, .i32⟩
  | .hbm, ⟨23, _⟩ => ⟨S500000x2, .i32⟩
  | .hbm, ⟨24, _⟩ => ⟨S500000x1, .i32⟩
  | .hbm, ⟨25, _⟩ => ⟨S500000, .i32⟩
  | .hbm, ⟨26, _⟩ => ⟨S500000x1, .i32⟩
  | .hbm, ⟨27, _⟩ => ⟨S500000, .i32⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i32⟩
  | .hbm, ⟨34, _⟩ => ⟨S500000, .i32⟩
  | .hbm, ⟨35, _⟩ => ⟨S_, .i32⟩
  | .hbm, ⟨36, _⟩ => ⟨S500000, .i32⟩
  | .hbm, ⟨37, _⟩ => ⟨S500000, .i1⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S500000, .i32⟩
  | .hbm, ⟨42, _⟩ => ⟨S500000x1, .i32⟩
  | .hbm, ⟨43, _⟩ => ⟨S500000x1, .i32⟩
  | .hbm, ⟨44, _⟩ => ⟨S500000x2, .i32⟩
  | .hbm, ⟨45, _⟩ => ⟨S500000, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c_0 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c_2 : Ref sig .tc := ⟨.hbm, 35, rfl⟩
abbrev main_v10 : Ref sig .tc := ⟨.hbm, 36, rfl⟩
abbrev main_v11 : Ref sig .tc := ⟨.hbm, 37, rfl⟩
abbrev main_c_3 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩

abbrev nD : Nat := 1
abbrev τ : Topo := Topo.v7x

variable {F : FTy → Type} [FloatOps F]
-- ==== Proof.WriteShares.lean ====
/-
  Write mode shared among many writers. A buffer in write mode whose holders have agreed on what every element will
  hold (`willBeTo`) is cut here into one share per writer (`Transfers.piece`, `pieceOf`): each writer's share records
  the elements that writer knows to be written, and the shares together are the whole with all their marks. Two
  writers may then write the same element, as long as both write what was agreed.
-/
module

public import Idealize.ShloMosaic.Lib.WriteMode
public import Idealize.ShloMosaic.Lib.SparseCore.Stream

@[expose] public section

noncomputable section

namespace Cert.Proof.WriteShares

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA
open scoped Idealize.SL.RA.PCS

variable {nD : Nat} {τ : Topo} {sig : RefSig} {Ix : Type} [DecidableEq Ix] {Val : EltTy → Type} {Name : Type} [DecidableEq Name]
variable {U : Type} [URA U] {Lvl : Type} (emb : UEmb (WmRA nD τ sig Val) U)

local notation "𝕄" => MT nD τ sig Ix Val Name U Lvl

/-- A share in write mode, its marks the union of `W₁` and `W₂`, is two shares that compose to it, marked `W₁` and `W₂`. -/
theorem willBeTo_share {ℓ : Loc nD τ sig} (I : Finset (Idx ℓ)) {q q₁ q₂ : PosShare TreeShare} (h : q ∈ q₁ ·? q₂)
    (f : Buf Val ℓ) (g : Tgt Val ℓ) (W₁ W₂ : Finset (Idx ℓ)) :
    (willBeTo emb ℓ I q f g (W₁ ∪ W₂) : sProp 𝕄) = iprop(willBeTo emb ℓ I q₁ f g W₁ ∗ willBeTo emb ℓ I q₂ f g W₂) := by
  have hb := BI.Region.held_share (ι := (wmEmb (Name := Name) (Lvl := Lvl) Ix emb).toEmb) (k := ℓ) (I := I)
    (x := fun i => Region.WB.mk (f i) (g i) (decide (i ∈ W₁))) (y := fun i => Region.WB.mk (f i) (g i) (decide (i ∈ W₂)))
    (z := fun i => Region.WB.mk (f i) (g i) (decide (i ∈ W₁ ∪ W₂))) h (fun i _ => by
      have e : decide (i ∈ W₁ ∪ W₂) = (decide (i ∈ W₁) || decide (i ∈ W₂)) := by
        rw [← Bool.decide_or]; exact decide_eq_decide.mpr Finset.mem_union
      rw [e]
      exact Region.WB.mem_mk_op_mk (f i) (g i) (decide (i ∈ W₁)) (decide (i ∈ W₂)))
  exact BI.Entails.antisymm hb.1 hb.2

/-- A share in write mode cut into `n + 1` pieces, each with marks of its own, the whole's being their union. -/
theorem willBeTo_pieces {ℓ : Loc nD τ sig} (I : Finset (Idx ℓ)) (f : Buf Val ℓ) (g : Tgt Val ℓ) :
    ∀ (n : ℕ) (q : PosShare TreeShare) (W : Fin (n + 1) → Finset (Idx ℓ)),
      (willBeTo emb ℓ I q f g (Finset.univ.biUnion W) : sProp 𝕄)
        = bigSep Finset.univ fun k : Fin (n + 1) => willBeTo emb ℓ I (piece q n k) f g (W k)
  | 0, q, W => by
    rw [BI.bigSep_univ_of_subsingleton (0 : Fin 1), show (Finset.univ : Finset (Fin 1)) = {0} from rfl, Finset.singleton_biUnion]
    rfl
  | n + 1, q, W => by
    have hW : Finset.univ.biUnion W = W 0 ∪ Finset.univ.biUnion fun k : Fin (n + 1) => W k.succ := by
      ext i
      simp only [Finset.mem_biUnion, Finset.mem_univ, _root_.true_and, Finset.mem_union, Fin.exists_fin_succ]
    rw [hW, willBeTo_share emb I (PosShare.mem_left_op_right q), willBeTo_pieces I f g n q.right,
      bigSep_univ_succ (Ix := Ix) (Name := Name) (U := U) (Lvl := Lvl) (m := n + 1)]
    congr 1

/-- The same for any positive number `o` of pieces. -/
theorem willBeTo_piecesOf {ℓ : Loc nD τ sig} (I : Finset (Idx ℓ)) (f : Buf Val ℓ) (g : Tgt Val ℓ) {o : ℕ} (ho : 0 < o)
    (q : PosShare TreeShare) (W : Fin o → Finset (Idx ℓ)) :
    (willBeTo emb ℓ I q f g (Finset.univ.biUnion W) : sProp 𝕄)
      = bigSep Finset.univ fun k : Fin o => willBeTo emb ℓ I (pieceOf q o ho k) f g (W k) := by
  obtain ⟨n, rfl⟩ : ∃ n, o = n + 1 := ⟨o - 1, by omega⟩
  exact willBeTo_pieces emb I f g n q W

/-- Nothing marked: the whole, unmarked, is its pieces, each unmarked. -/
theorem willBeTo_piecesOf_unmarked {ℓ : Loc nD τ sig} (I : Finset (Idx ℓ)) (f : Buf Val ℓ) (g : Tgt Val ℓ) {o : ℕ} (ho : 0 < o)
    (q : PosShare TreeShare) :
    (willBeTo emb ℓ I q f g ∅ : sProp 𝕄) = bigSep Finset.univ fun k : Fin o => willBeTo emb ℓ I (pieceOf q o ho k) f g ∅ := by
  have h := willBeTo_piecesOf (Ix := Ix) (Name := Name) (Lvl := Lvl) emb I f g ho q (fun _ => ∅)
  rwa [show (Finset.univ.biUnion fun _ : Fin o => (∅ : Finset (Idx ℓ))) = ∅ from
    Finset.eq_empty_of_forall_notMem fun i hi => by obtain ⟨_, _, h⟩ := Finset.mem_biUnion.mp hi; exact Finset.notMem_empty i h] at h

end Cert.Proof.WriteShares

end
-- ==== Proof.StreamBatch.lean ====
/-
  Several indirect gathers in flight on ONE DMA semaphore. The library's rule for a gather
  (`SparseCore.wp_indirectGatherLocal`) makes each gather a flight of its own, which takes the semaphore's counter
  at zero; a kernel that starts several gathers on one semaphore before its first wait needs them to share it.
  Here the rows of all the gathers are the transfers of one `Transfers.Batch`: a gather of `o` rows issues the
  batch's next `o` transfers, a wait sized to a gather consumes as many rows' units, and the wait that drains the
  batch hands every row's delivery back.
-/
module

public import Idealize.ShloMosaic.Lib.Batch
public import Idealize.ShloMosaic.Lib.SparseCore.Stream

@[expose] public section

noncomputable section

namespace Cert.Proof.StreamBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch pending)

section Pending

variable {M : Type} [URA M]

/-- The transfers pending from `j` on are the next `o` and those pending from `j + o` on. -/
theorem bigSep_pending_range {n : ℕ} (Φ : Fin n → sProp M) (j o : ℕ) (h : j + o ≤ n) :
    bigSep (pending j) Φ
      = iprop(bigSep Finset.univ (fun i : Fin o => Φ ⟨j + i.val, by omega⟩) ∗ bigSep (pending (j + o)) Φ) := by
  classical
  let e : Fin o ↪ Fin n := ⟨fun i => ⟨j + i.val, by omega⟩, fun a b hab => Fin.ext (by simpa using hab)⟩
  have hset : pending (n := n) j = Finset.univ.map e ∪ pending (j + o) := by
    ext t
    simp only [pending, Finset.mem_filter, Finset.mem_univ, _root_.true_and, Finset.mem_union, Finset.mem_map]
    constructor
    · intro hj
      by_cases ht : j + o ≤ t.val
      · exact .inr ht
      · exact .inl ⟨⟨t.val - j, by omega⟩, Fin.ext (by change j + (t.val - j) = t.val; omega)⟩
    · rintro (⟨i, rfl⟩ | ht)
      · exact Nat.le_add_right _ _
      · omega
  have hdisj : Disjoint (Finset.univ.map e) (pending (n := n) (j + o)) := by
    rw [Finset.disjoint_left]
    intro t ht ht'
    obtain ⟨i, -, rfl⟩ := Finset.mem_map.mp ht
    have h1 : j + o ≤ j + i.val := (Finset.mem_filter.mp ht').2
    have h2 := i.isLt
    omega
  rw [hset, BI.bigSep_union hdisj, BI.bigSep_map]
  rfl

end Pending

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- A gather issued as the NEXT `o` transfers of a batch on its semaphore (`o` the rows it fetches, each of `N`
    units): from the source held at one share per row (`qk`), the destination outright, a share of the offset list
    whose words are in range (`hin`) and the batch with its first `j` transfers issued, the tile continues with
    the first `j + o` issued, when each row's delivery — the row written with the source's row that the list names,
    the list's entry back, the row's share of the source back — entails what the batch says that transfer delivers. -/
theorem wp_indirectGatherBatch [Infinite Name] [EC.LandsIn (upEmb : UEmb _ 𝕄)] {n : ℕ} {D : Fin n → sProp 𝕄}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qk : Fin (s.size hg.axis') → PosShare TreeShare} {qo : PosShare TreeShare}
    {fs : Buf (Elt F) (src.view.loc c)} {fd : Buf (Elt F) (dst.view.loc c)} {fo : Buf (Elt F) (offs.view.loc c)}
    (ι : Ix) (N : ℕ) {j u : ℕ}
    (hN : ∀ i, (dst.slice (s.rowRect hg.axis' i) (s.stride_rowRect hg.axis' i)).view.dmaCredit = N)
    (hj : j + s.size hg.axis' ≤ n) (hu : u ≤ j * N)
    (hin : ∀ x, (offs.view.read (Elt F) fo x).toNat < s₀.size hg.axis)
    (hD : ∀ i : Fin (s.size hg.axis'),
      iprop(((dst.view.loc c ↦[(dst.view.slice (s.rowRect hg.axis' i)).set]{fullShare}
              ((dst.view.slice (s.rowRect hg.axis' i)).write (Elt F) fd
                (fun y => src.view.read (Elt F) fs (hg.rowIdx (rows (offs.view.read (Elt F) fo) hn hin i) y)) Finset.univ))
          ∗ (offs.view.loc c ↦[{offs.view.emb (si.rowMajor.symm (i.cast hn.symm))}]{qo} fo))
          ∗ (src.view.loc c ↦[src.view.set]{qk i} fs)) ⊢ D ⟨j + i.val, by omega⟩) :
    iprop((bigSep Finset.univ fun i => src.view.loc c ↦[src.view.set]{qk i} fs)
        ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  -- the stream the machine holds, the row each of its entries fetches, and the transfer of that row
  let S : Stream nD τ sig (Elt F) :=
    Stream.issued c offs.view hn sem (fun i w => (rowOf (s₀.size hg.axis) w).map (gatherRow c src dst hg sem hsrc he hsp hr i)) 0
  let rd : Fin (s.size hg.axis') → RowDma τ sig (Elt F) c.2 sem := fun i =>
    gatherRow c src dst hg sem hsrc he hsp hr i (rows (offs.view.read (Elt F) fo) hn hin i)
  have hA : S.RowsAgree := by
    intro i x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hen : Function.Bijective S.entry := si.rowMajor.symm.bijective.comp (finCongr hn.symm).bijective
  have hsum : ∑ i, (dst.slice (s.rowRect hg.axis' i) (s.stride_rowRect hg.axis' i)).view.dmaCredit = s.size hg.axis' * N := by
    rw [Finset.sum_congr rfl fun i _ => hN i, Finset.sum_const, Finset.card_univ, Fintype.card_fin, smul_eq_mul]
  unfold Transfers.Batch
  iintro ⟨Hs, Hd, Ho, ⟨%γ, %γ₀, %κ, #Hinv, HI, H0, Hcred⟩⟩ Hk
  ihave HI' := (Entails.of_eq (bigSep_pending_range (fun t => count EC (γ t) 0) j (s.size hg.axis') hj)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  iapply (wp_enqueueIndirectDma 𝒱 c bd Set.univ (qo := qo) (fo := fo) (rd := rd) ι (s.size hg.axis' * N) hA hrd hsum) $$ [Hd' Ho' Hs Hγ]
  · have hrow : ∀ i : Fin (s.size hg.axis'), iprop(inv κ (Transfers.batchBody EC (c, SemLoc.dma sem) N D γ γ₀)
          ∗ ((((dst.view.loc c ↦[(dst.view.slice (s.rowRect hg.axis' i)).set]{fullShare} fd) ∗ S.heldEntry qo fo i)
          ∗ (src.view.loc c ↦[src.view.set]{qk i} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists qk i, fs, iprop((dst.view.loc c ↦[(dst.view.slice (s.rowRect hg.axis' i)).set]{fullShare}
              ((dst.view.slice (s.rowRect hg.axis' i)).write (Elt F) fd
                (fun y => src.view.read (Elt F) fs (hg.rowIdx (rows (offs.view.read (Elt F) fo) hn hin i) y)) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · rw [show (rd i).dst.view.amount (.dma sem) = N from hN i]
        iapply (Transfers.batch_creditUpdate EC ⟨j + i.val, by omega⟩ (hD i))
        isplitr; · iexact Hinv
        iexact Hγi
    unfold Stream.res
    ihave H1 := Transfers.bigSep_sep_in _ _ _ $$ [Hd' Ho']; · isplitl [Hd'] <;> iassumption
    ihave H2 := Transfers.bigSep_sep_in _ _ _ $$ [H1 Hs]; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Proof.StreamBatch

end
-- ==== Proof.Setup.lean ====
/-
  The program of `KernelIdeal` as the launch theorem sees it, what its buffers hold as the run goes on, and what the
  one SparseCore call hands out and gets back. The whole development is over an arbitrary family `F` of float types:
  the kernel only moves floats, so the same run serves the bit-exact program and the ideal one.

  The values, from a launch memory `m` (`x` in the first argument, the index pairs in the second):
    * `tab`, the table in the order @main lays it out for the SparseCore;
    * `fl`, one word per index pair, `(r << 13) | c`;
    * `conv`, a tile's rearrangement of such a word into a position in `tab`;
    * `res`, what every element of the result must hold: `tab` at the rearranged word.
  Two tiles write the elements they share, so the result goes out in write mode, its targets `res`, each tile holding
  a share of it and marking the elements it wrote.
-/
module

public import proofs.«01_k».proof.Defs
public import proofs.«01_k».proof.Proof.WriteShares
public import proofs.«01_k».proof.Proof.StreamBatch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, write mode's cells, the transfers' counters -/

variable (F) in
abbrev WM0 : Type := WmRA nD τ sig (Elt F)
abbrev UH : Type := URounds (GSem nD τ sig) ℕ
variable (F) in
abbrev UU : Type := UH × (WM0 F × Counters)

local notation "𝕄" => MT nD τ sig (HIx 1) (Elt F) ℕ (UU F) ℕ

abbrev EH : Emb UH (MT nD τ sig (HIx 1) (Elt F) ℕ (UU F) ℕ) := embL

/-- Where write mode's cells sit in the algebra. -/
def eW : UEmb (WM0 F) (UU F) := UEmb.inl.trans UEmb.inr

/-! ## The buffers the call takes -/

variable (m : (ℓ : Loc nD τ sig) → Buf (Elt F) ℓ) (ρ : Dev nD → PrngReg)

abbrev aLoc (d : Dev nD) : Loc nD τ sig := (SparseCore.T d).loc main_arg0
abbrev iLoc (d : Dev nD) : Loc nD τ sig := (SparseCore.T d).loc main_arg1
abbrev xLoc (d : Dev nD) : Loc nD τ sig := (SparseCore.T d).loc main_v2
abbrev wLoc (d : Dev nD) : Loc nD τ sig := (SparseCore.T d).loc main_v9
abbrev oLoc (d : Dev nD) : Loc nD τ sig := (SparseCore.T d).loc main_v10

abbrev xV : Memref sig Kind.scVector Space.hbm S33554432 EltTy.f32 := Memref.whole main_v2_scv
abbrev wV : Memref sig Kind.scVector Space.hbm S500000 EltTy.i32 := Memref.whole main_v9_scv
abbrev oV : Memref sig Kind.scVector Space.hbm S500000 EltTy.f32 := Memref.whole main_v10_scv
abbrev fV : Memref sig Kind.scVector Space.vmem S15680 EltTy.i32 := Memref.whole cc0_scratch0
abbrev vV : Memref sig Kind.scVector Space.vmem S15680 EltTy.f32 := Memref.whole cc0_scratch1

/-! ## What they hold -/

/-- A tile's rearrangement of a word `(r << 13) | c` into the position of `x[r, c]` in the laid-out table. -/
def conv (w : BitVec 32) : BitVec 32 :=
  IntOp.ori (IntOp.ori (IntOp.ori (IntOp.shli .vector (IntOp.shrsi .vector w 16#32) 16#32) (IntOp.andi w 127#32))
    (IntOp.andi (IntOp.shli .vector w 3#32) 64512#32)) (IntOp.andi (IntOp.shrsi .vector w 6#32) 896#32)

/-- The position in the table that a word names, the table's length wrapped around it. -/
def row (w : BitVec 32) : S33554432.Idx := fun a => ⟨w.toNat % S33554432.size a, Nat.mod_lt _ (by match a with | 0 => decide)⟩

/-- `x` in the order @main lays it out: tiles of 8 rows by 128 columns, each tile's elements together. -/
def tab (d : Dev nD) : FVec F S33554432 .f32 :=
  shapeCast S33554432 (transpose S512x64x8x128 [0, 2, 1, 3]
    (shapeCast S512x8x64x128 (m (aLoc d) : FVec F S4096x8192 .f32) shapeCasts_S4096x8192_S512x8x64x128)
    transposes_S512x8x64x128_S512x64x8x128_0_2_1_3) shapeCasts_S512x64x8x128_S33554432

/-- One word per index pair: the row number shifted by 13, or-ed with the column number. -/
def fl (d : Dev nD) : IVec S500000 32 :=
  ori (Host.shli (shapeCast S500000 (extractStridedSlice S500000x1 ![0, 0] (m (iLoc d) : IVec S500000x2 32) slices_S500000x2_S500000x1_0_0)
      shapeCasts_S500000x1_S500000) (broadcastInDim S500000 ![] bcast_S_S500000 (constantI S_ 32 13#32)))
    (shapeCast S500000 (extractStridedSlice S500000x1 ![0, 1] (m (iLoc d) : IVec S500000x2 32) slices_S500000x2_S500000x1_0_1)
      shapeCasts_S500000x1_S500000)

/-- What every element of the result must hold. -/
def res (d : Dev nD) : FVec F S500000 .f32 := fun j => tab m d (row (conv (fl m d j)))

/-- What the proof asks of the launch memory: every rearranged word is a position in the table. -/
def PreOK : Prop := ∀ (d : Dev nD) (j : S500000.Idx), (conv (fl m d j)).toNat < 33554432

/-- The targets of the result in write mode. -/
def tgt (d : Dev nD) : Tgt (Elt F) (oLoc d) := fun j => some (res m d j)

/-! ## Who holds which share -/

/-- SparseCore `c`'s share. -/
def cq (c : Fin 2) : PosShare TreeShare := pieceOf fullShare 2 (by decide) c
/-- The share of tile `i` of SparseCore `c`. -/
def tq (c : Fin 2) (i : Fin 16) : PosShare TreeShare := pieceOf (cq c) 16 (by decide) i

/-- The grid point of tile `i` of SparseCore `c`. -/
def pt (c : Fin 2) (i : Fin 16) : grid0.Coords :=
  fun | 0 => c | 1 => i | ⟨_ + 2, h⟩ => absurd h (Nat.not_lt.2 (Nat.le_add_left _ _))

/-- The window of the result that the tile at a grid point works on. -/
abbrev wRect (L : grid0.Coords) : Rect S500000 := Rect.unit (s := S500000) (k0_off1 L) S15680.size (k0_off1_inb L)
/-- Its elements. -/
def win (L : grid0.Coords) : Finset S500000.Idx := (wRect L).set

abbrev xPts (d : Dev nD) (q : PosShare TreeShare) : sProp 𝕄 := xLoc d ↦{q} (tab m d : Buf (Elt F) (xLoc d))
abbrev wPts (d : Dev nD) (q : PosShare TreeShare) : sProp 𝕄 := wLoc d ↦{q} (fl m d : Buf (Elt F) (wLoc d))
/-- A share of the whole result in write mode, the elements `W` marked as written. -/
abbrev oWill (d : Dev nD) (q : PosShare TreeShare) (W : Finset S500000.Idx) : sProp 𝕄 :=
  willBeTo eW (oLoc d) Finset.univ q (m (oLoc d)) (tgt m d) W

/-- What the holder of share `q` has of the three buffers, the elements `W` of the result written. -/
abbrev held3 (d : Dev nD) (q : PosShare TreeShare) (W : Finset S500000.Idx) : sProp 𝕄 :=
  iprop(xPts m d q ∗ wPts m d q ∗ oWill m d q W)

/-- The knowledge that write mode is in force. -/
abbrev wmOn : sProp 𝕄 := iprop(∃ ι : ℕ, wmInv (Ix := HIx 1) (Lvl := ℕ) eW ι)

/-- What the call's handshakes carry: a share of each buffer per SparseCore, of that one per tile, the result's coming
    back with the window of each tile marked. -/
def P : (K (F := F)).Pay (nD := nD) (Val := Elt F) (Name := ℕ) (U := UU F) where
  st := fun q d c => match q with | 0 => held3 m d (cq (Fin.cast nCore_zero c)) ∅
  dn := fun q d c => match q with
    | 0 => held3 m d (cq (Fin.cast nCore_zero c)) (Finset.univ.biUnion fun i : Fin 16 => win (pt (Fin.cast nCore_zero c) i))
  go := fun q d c i => match q with | 0 => held3 m d (tq (Fin.cast nCore_zero c) (Fin.cast nSub_zero i)) ∅
  td := fun q d c i => match q with
    | 0 => held3 m d (tq (Fin.cast nCore_zero c) (Fin.cast nSub_zero i)) (win (pt (Fin.cast nCore_zero c) (Fin.cast nSub_zero i)))
  x := fun _ _ => wmOn

theorem held3_storable (d : Dev nD) (q : PosShare TreeShare) (W : Finset S500000.Idx) :
    BI.Storable (upEmb : UEmb _ 𝕄) (held3 m d q W) := inferInstance

instance P_storable : (P (F := F) m).IsStorable where
  st q d c := match q with | 0 => held3_storable m d _ _
  dn q d c := match q with | 0 => held3_storable m d _ _
  go q d c i := match q with | 0 => held3_storable m d _ _
  td q d c i := match q with | 0 => held3_storable m d _ _

end Cert.Proof.Launch

end
-- ==== Proof.Loop.lean ====
/-
  A tile's rearrangement loops. Each of the four walks one stretch of 3920 words of the tile's list, 16 words a trip,
  and puts `conv` of every word in its place. One trip, and one loop, are proved here once, for a stretch at any place
  `koff`; the four printed loops are instances.
-/
module

public import proofs.«01_k».proof.Proof.Setup
public import Idealize.ShloMosaic.Lib.Pipeline.Value

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ

/-- SparseCore and subcore of a grid point, as the machine numbers them; the thread that runs there. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The payload of a trip's store is `conv` of what the trip loaded, lane by lane. -/
theorem pay1_apply (v : Vec F S16 .i32) (j : S16.Idx) : k0_pay1 (F := F) v j = conv (v j) := by
  unfold k0_pay1 conv; simp only [shapeCast_self]; rfl
theorem pay2_apply (v : Vec F S16 .i32) (j : S16.Idx) : k0_pay2 (F := F) v j = conv (v j) := pay1_apply v j
theorem pay3_apply (v : Vec F S16 .i32) (j : S16.Idx) : k0_pay3 (F := F) v j = conv (v j) := pay1_apply v j
theorem pay4_apply (v : Vec F S16 .i32) (j : S16.Idx) : k0_pay4 (F := F) v j = conv (v j) := pay1_apply v j

/-- The list after `t` trips over the stretch at `koff`: the first `16 t` words of the stretch rearranged. -/
def mix (koff t : ℕ) (f : S15680.Idx → BitVec 32) : S15680.Idx → BitVec 32 :=
  fun i => if koff ≤ (i 0).val ∧ (i 0).val < koff + 16 * t then conv (f i) else f i

theorem mix_zero (koff : ℕ) (f : S15680.Idx → BitVec 32) : mix koff 0 f = f := by
  funext i; exact if_neg (by omega)

/-- The 16 lanes of trip `t`: 16 words from `koff + 16 t` on. -/
theorem lanes_set (koff t : ℕ) {off : Fin 1 → ℕ} (hoff : off = ![16 * t + koff]) (inb : ∀ a, off a + S16.size a ≤ S15680.size a)
    (i : S15680.Idx) : i ∈ (Rect.unit (s := S15680) off S16.size inb).set ↔ koff + 16 * t ≤ (i 0).val ∧ (i 0).val < koff + 16 * (t + 1) := by
  subst hoff
  rw [Rect.mem_set_unit]
  constructor
  · intro h; have := h 0; simp at this; omega
  · intro h a
    match a with
    | ⟨0, _⟩ => simp; omega

/-- What a trip leaves: the mask covers the 16 lanes, their words are rearranged, the rest is as before. -/
theorem write_mix (koff t : ℕ) {off : Fin 1 → ℕ} (hoff : off = ![16 * t + koff]) (inb : ∀ a, off a + S16.size a ≤ S15680.size a)
    (f : S15680.Idx → BitVec 32) (w : S16.Idx → BitVec 32)
    (hw : ∀ x : S16.Idx, w x = conv (mix koff t f ((Rect.unit (s := S15680) off S16.size inb).emb x))) :
    (fV.access (Rect.unit (s := S15680) off S16.size inb)).write (Elt F) (mix koff t f) w Finset.univ = mix koff (t + 1) f := by
  funext i
  by_cases hi : i ∈ (Rect.unit (s := S15680) off S16.size inb).set
  · obtain ⟨x, -, rfl⟩ := Finset.mem_map.mp (show i ∈ Finset.univ.map (Rect.unit (s := S15680) off S16.size inb).emb by
      rw [Rect.map_emb_univ]; exact hi)
    have h := (lanes_set koff t hoff inb _).mp hi
    refine (View.write_emb_of_mem (v := fV.access (Rect.unit (s := S15680) off S16.size inb)) (Val := Elt F) (mix koff t f) w (Finset.mem_univ x)).trans ?_
    refine (cast_eq _ _).trans ?_
    rw [hw x]
    unfold mix
    rw [if_neg (by omega), if_pos (by omega)]
  · refine (View.write_of_not_mem (v := fV.access (Rect.unit (s := S15680) off S16.size inb)) (Val := Elt F) (mix koff t f) w Finset.univ ?_).trans ?_
    · intro hm
      obtain ⟨x, -, rfl⟩ := Finset.mem_map.mp hm
      exact hi (by rw [← Rect.map_emb_univ]; exact Finset.mem_map_of_mem _ (Finset.mem_univ x))
    · rw [lanes_set koff t hoff inb] at hi
      unfold mix
      by_cases h : koff ≤ (i 0).val ∧ (i 0).val < koff + 16 * t
      · rw [if_pos h, if_pos (by omega)]
      · rw [if_neg h, if_neg (by omega)]

/-- One trip's program, over its rectangle of 16 words and its payload. -/
abbrev tripProg (L : grid0.Coords) (off : Fin 1 → ℕ) (inb : ∀ a, off a + S16.size a ≤ S15680.size a) (pay : Vec F S16 .i32 → IVec S16 32) :
    Prog (TpuEff nD τ sig (Elt F) Λ₀ (.scVector (cV L) (jV L))) Unit := do
  let v36 : Vec F S16 .i32 ← Prog.lift (.load fV (Rect.unit (s := S15680) off S16.size inb).toLoadRect (View.loadsAt_vmem h_S16))
  let _ : Vec F S16 .i32 ← Prog.lift (.load fV (Rect.unit (s := S15680) off S16.size inb).toLoadRect (View.loadsAt_vmem h_S16))
  Prog.lift (.store fV (Rect.unit (s := S15680) off S16.size inb) (pay v36) Finset.univ (View.stores_vmem_bits_univ h_S16 rfl) (.inl rfl))
  pure ⟨⟩

/-- One trip of a rearrangement loop over the stretch at `koff`, from a part `I` of the list that includes the stretch:
    the trip's 16 words are loaded (twice, as the kernel's store reads what it overwrites), and stored rearranged. -/
theorem trip (d : Dev nD) (L : grid0.Coords) (koff t : ℕ) {off : Fin 1 → ℕ} (hoff : off = ![16 * t + koff]) (ht : t < 245)
    (inb : ∀ a, off a + S16.size a ≤ S15680.size a) (pay : Vec F S16 .i32 → IVec S16 32) (hpay : ∀ v j, pay v j = conv (v j))
    (I : Finset S15680.Idx) (hI : ∀ i : S15680.Idx, koff ≤ (i 0).val → (i 0).val < koff + 3920 → i ∈ I) (f : S15680.Idx → BitVec 32) :
    (fV.view.loc (thr d L) ↦[I]{fullShare} (mix koff t f : Buf (Elt F) (fV.view.loc (thr d L))) : sProp 𝕄)
      ⊢ wp frame (wpE (defs₀ (F := F)) 𝒱₀ (thr d L) none) Set.univ (tripProg (F := F) L off inb pay)
          fun _ => fV.view.loc (thr d L) ↦[I]{fullShare} (mix koff (t + 1) f : Buf (Elt F) (fV.view.loc (thr d L))) := by
  have hsub : (fV.access (Rect.unit (s := S15680) off S16.size inb)).set ⊆ I := by
    intro i hi
    obtain ⟨x, -, rfl⟩ := Finset.mem_map.mp hi
    have h := (lanes_set koff t hoff inb _).mp (by rw [← Rect.map_emb_univ]; exact Finset.mem_map_of_mem _ (Finset.mem_univ x))
    exact hI _ (by change koff ≤ ((Rect.unit (s := S15680) off S16.size inb).emb x 0).val; omega)
      (by change ((Rect.unit (s := S15680) off S16.size inb).emb x 0).val < _; omega)
  let r : Rect S15680 := Rect.unit (s := S15680) off S16.size inb
  unfold tripProg
  iintro H
  iapply (wp_load_rect 𝒱₀ (thr d L) none Set.univ (m := fV) (r := r) (S := I) (q := fullShare) (f := mix koff t f) hsub) $$ H
  iintro H
  iapply (wp_load_rect 𝒱₀ (thr d L) none Set.univ (m := fV) (r := r) (S := I) (q := fullShare) (f := mix koff t f) hsub) $$ H
  iintro H
  iapply (wp_store 𝒱₀ (thr d L) none Set.univ (m := fV) (r := r) (S := I) (f := mix koff t f) hsub) $$ H
  iintro H
  simp only [Prog.bind, wp_pure]
  imodintro
  iapply (Entails.of_eq (congrArg (fun g => (fV.view.loc (thr d L) ↦[I]{fullShare} g : sProp 𝕄)) (write_mix (F := F) koff t hoff inb f _ fun x => ?_))) $$ H
  rw [hpay]; rfl

/-- A whole rearrangement loop at the head of a program: 245 trips leave the stretch at `koff` rearranged. -/
theorem loop (d : Dev nD) (L : grid0.Coords) (koff : ℕ) (lp : Scf.Loop 32) (hok : lp.OK) (htr : lp.trips = 245)
    (off : Fin lp.trips → Fin 1 → ℕ) (hoff : ∀ t, off t = ![16 * t.val + koff]) (inb : ∀ t, ∀ a, off t a + S16.size a ≤ S15680.size a)
    (pay : Vec F S16 .i32 → IVec S16 32) (hpay : ∀ v j, pay v j = conv (v j))
    (I : Finset S15680.Idx) (hI : ∀ i : S15680.Idx, koff ≤ (i 0).val → (i 0).val < koff + 3920 → i ∈ I) (f : S15680.Idx → BitVec 32)
    {β : Type} {kk : Unit → Prog (TpuEff nD τ sig (Elt F) Λ₀ (.scVector (cV L) (jV L))) β} {Q : β → sProp 𝕄} :
    (fV.view.loc (thr d L) ↦[I]{fullShare} (f : Buf (Elt F) (fV.view.loc (thr d L))) : sProp 𝕄)
      ⊢ iprop(((fV.view.loc (thr d L) ↦[I]{fullShare} (mix koff 245 f : Buf (Elt F) (fV.view.loc (thr d L))))
            -∗ wp frame (wpE (defs₀ (F := F)) 𝒱₀ (thr d L) none) Set.univ (kk ⟨⟩) Q)
          -∗ wp frame (wpE (defs₀ (F := F)) 𝒱₀ (thr d L) none) Set.univ
              (Scf.Loop.for lp hok ⟨⟩ (fun t _ => tripProg (F := F) L (off t) (inb t) pay) >>= kk) Q) := by
  have h := Scf.wp_for_bind frame (wpE (defs₀ (F := F)) 𝒱₀ (thr d L) none) Set.univ lp.lb lp.ub lp.st hok (⟨⟩ : Unit)
    (fun t _ => tripProg (F := F) L (off t) (inb t) pay)
    (fun t _ => (fV.view.loc (thr d L) ↦[I]{fullShare} (mix koff t f : Buf (Elt F) (fV.view.loc (thr d L))) : sProp 𝕄))
    (fun t _ => trip d L koff t.val (hoff t) (by have := t.isLt; have e : Scf.trips lp.lb lp.ub lp.st = 245 := htr; omega) (inb t) pay hpay I hI f)
    (kk := kk) (Q := Q)
  rw [mix_zero] at h
  iintro H Hk
  iapply h $$ H
  iintro %acc H
  rw [show Scf.trips lp.lb lp.ub lp.st = 245 from htr]
  iapply Hk $$ H

end Cert.Proof.Launch

end
-- ==== Proof.Gather.lean ====
/-
  A tile's four gathers. Each fetches 3920 elements of the table, one per word of a stretch of the list, and all four
  are in flight on one semaphore before the first wait: the 15680 elements are the transfers of one batch. What a
  transfer delivers (`Dl`) is its element of the value buffer filled, its word of the list back, its share of the
  table back. One gather, at any place `koff`, is proved here once.
-/
module

public import proofs.«01_k».proof.Proof.Loop
public import Idealize.ShloMosaic.Lib.ValueIdxCore

@[expose] public section

noncomputable section

namespace Cert.Proof.Launch

open Cert.KernelIdeal Cert.KernelIdeal.Gen

open Idealize.ShloMosaic
open Idealize.ShloMosaic.SparseCore (S V T rows)
open Idealize.ShloMosaic.SparseCore.Cfg (HIx)
open Idealize.ShloMosaic.ValueIdx (ix1 eq_ix1)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ

variable (m : (ℓ : Loc nD τ sig) → Buf (Elt F) ℓ)

/-! ## What a tile's two scratch buffers hold -/

/-- The tile's words as they are copied in. -/
def wordsIn (d : Dev nD) (L : grid0.Coords) : S15680.Idx → BitVec 32 := fun j => fl m d ((wRect L).emb j)
/-- The tile's list: every word rearranged. -/
def list (d : Dev nD) (L : grid0.Coords) : S15680.Idx → BitVec 32 := fun j => conv (wordsIn m d L j)
/-- The tile's values: the table at the list. -/
def vals (d : Dev nD) (L : grid0.Coords) : S15680.Idx → F .f32 := fun j => tab m d (row (list m d L j))

theorem vals_eq (d : Dev nD) (L : grid0.Coords) (j : S15680.Idx) : vals m d L j = res m d ((wRect L).emb j) := rfl

theorem list_lt (hpre : PreOK m) (d : Dev nD) (L : grid0.Coords) (j : S15680.Idx) : (list m d L j).toNat < 33554432 := hpre d _

/-! ## The batch -/

/-- The table as the gathers name it: a slice that is all of it. -/
abbrev xS : Memref sig .scVector .hbm S33554432 .f32 :=
  xV.slice (Rect.unit (s := S33554432) ![0] S33554432.size inb_S33554432_S33554432_0) (fun _ => rfl)

/-- A stretch of 3920 places at `koff`. -/
abbrev kRect (koff : ℕ) (inb : ∀ a, (![koff] : Fin 1 → ℕ) a + S3920.size a ≤ S15680.size a) : Rect S15680 :=
  Rect.unit (s := S15680) ![koff] S3920.size inb
abbrev vS (koff : ℕ) (inb : ∀ a, (![koff] : Fin 1 → ℕ) a + S3920.size a ≤ S15680.size a) : Memref sig .scVector .vmem S3920 .f32 :=
  vV.slice (kRect koff inb) (fun _ => rfl)
abbrev fS (koff : ℕ) (inb : ∀ a, (![koff] : Fin 1 → ℕ) a + S3920.size a ≤ S15680.size a) : Memref sig .scVector .vmem S3920 .i32 :=
  fV.slice (kRect koff inb) (fun _ => rfl)

/-- Place `t` of a scratch buffer. -/
abbrev at1 (t : Fin 15680) : S15680.Idx := ix1 t

/-- What transfer `t` delivers. -/
def Dl (d : Dev nD) (L : grid0.Coords) (q : PosShare TreeShare) (t : Fin 15680) : sProp 𝕄 :=
  iprop(((vV.view.loc (thr d L) ↦[{at1 t}]{fullShare} (vals m d L : Buf (Elt F) (vV.view.loc (thr d L))))
      ∗ (fV.view.loc (thr d L) ↦[{at1 t}]{fullShare} (list m d L : Buf (Elt F) (fV.view.loc (thr d L)))))
    ∗ (xS.view.loc (thr d L) ↦[xS.view.set]{pieceOf q 15680 (by decide) t} (tab m d : Buf (Elt F) (xS.view.loc (thr d L)))))

instance Dl_storable (d : Dev nD) (L : grid0.Coords) (q : PosShare TreeShare) (t : Fin 15680) :
    BI.Storable (upEmb : UEmb _ 𝕄) (Dl m d L q t) := by unfold Dl; infer_instance

/-- One element's units on a semaphore. -/
abbrev unit1 : ℕ := (vV.slice (Rect.unit (s := S15680) ![0] (fun _ => 1) (by decide)) (fun _ => rfl)).view.dmaCredit

theorem credit_row (koff : ℕ) (inb : ∀ a, (![koff] : Fin 1 → ℕ) a + S3920.size a ≤ S15680.size a) (i : Fin 3920) :
    ((vS koff inb).slice (S3920.rowRect gathers_S33554432_S3920.axis' i) (S3920.stride_rowRect gathers_S33554432_S3920.axis' i)).view.dmaCredit = unit1 := by
  rfl

theorem credit_stretch (koff : ℕ) (inb : ∀ a, (![koff] : Fin 1 → ℕ) a + S3920.size a ≤ S15680.size a) :
    (vS koff inb).view.dmaCredit = 3920 * unit1 := by
  rfl

theorem unit1_pos : 0 < unit1 := by decide

theorem emb_kRect (koff : ℕ) (inb : ∀ a, (![koff] : Fin 1 → ℕ) a + S3920.size a ≤ S15680.size a) (i : Fin 3920) (h : koff + i.val < 15680) :
    (kRect koff inb).emb (ix1 i) = at1 ⟨koff + i.val, h⟩ := by
  funext a
  match a with
  | ⟨0, _⟩ => exact Fin.ext (by change koff + 1 * i.val = koff + i.val; omega)

/-- The `i`-th of a stretch's words, in the order a gather reads its list. -/
theorem entry_eq (i : Fin 3920) : S3920.rowMajor.symm (i.cast rfl) = ix1 i := by
  rw [Equiv.symm_apply_eq]
  exact Fin.ext (Shape.rowMajor_val_one (d := S3920.size) (ix1 i)).symm

/-- Row `i` of a stretch of the value buffer is its one element. -/
theorem set_row (koff : ℕ) (inb : ∀ a, (![koff] : Fin 1 → ℕ) a + S3920.size a ≤ S15680.size a) (i : Fin 3920) (h : koff + i.val < 15680) :
    ((vS koff inb).view.slice (S3920.rowRect gathers_S33554432_S3920.axis' i)).set = {at1 ⟨koff + i.val, h⟩} := by
  ext z
  rw [Finset.mem_singleton]
  constructor
  · intro hz
    obtain ⟨y, -, rfl⟩ := Finset.mem_map.mp hz
    have hy : (S3920.rowRect gathers_S33554432_S3920.axis' i).emb y = ix1 i := by
      rw [eq_ix1 ((S3920.rowRect gathers_S33554432_S3920.axis' i).emb y)]
      exact congrArg ix1 (Shape.rowRect_emb_axis gathers_S33554432_S3920.axis' i y)
    change (kRect koff inb).emb ((S3920.rowRect gathers_S33554432_S3920.axis' i).emb y) = _
    rw [hy, emb_kRect koff inb i h]
  · rintro rfl
    have y : (S3920.rowShape gathers_S33554432_S3920.axis').Idx := fun a => ⟨0, by
      change 0 < (if a = _ then 1 else S3920.size a); split
      · decide
      · match a with | ⟨0, _⟩ => exact (by decide : 0 < 3920)⟩
    have hy : (S3920.rowRect gathers_S33554432_S3920.axis' i).emb y = ix1 i := by
      rw [eq_ix1 ((S3920.rowRect gathers_S33554432_S3920.axis' i).emb y)]
      exact congrArg ix1 (Shape.rowRect_emb_axis gathers_S33554432_S3920.axis' i y)
    refine Finset.mem_map.mpr ⟨y, Finset.mem_univ _, ?_⟩
    change (kRect koff inb).emb ((S3920.rowRect gathers_S33554432_S3920.axis' i).emb y) = _
    rw [hy, emb_kRect koff inb i h]

/-- The words the gather at `koff` reads are positions in the table. -/
theorem list_in (hpre : PreOK m) (d : Dev nD) (L : grid0.Coords) (koff : ℕ) (inb : ∀ a, (![koff] : Fin 1 → ℕ) a + S3920.size a ≤ S15680.size a) :
    ∀ x, ((fS koff inb).view.read (Elt F) (list m d L) x).toNat < S33554432.size gathers_S33554432_S3920.axis :=
  fun _ => list_lt m hpre d L _

/-- The gather at `koff`: from the stretch of the value buffer and of the list, the shares of the table for its
    elements and the batch with the transfers before `koff` issued, its own 3920 transfers are issued. -/
theorem gather (hpre : PreOK m) (d : Dev nD) (L : grid0.Coords) (q : PosShare TreeShare) (koff : ℕ)
    (inb : ∀ a, (![koff] : Fin 1 → ℕ) a + S3920.size a ≤ S15680.size a) (hk : koff + 3920 ≤ 15680)
    (fv : Buf (Elt F) (vV.view.loc (thr d L)))
    {β : Type} {kk : PUnit → Prog (TpuEff nD τ sig (Elt F) Λ₀ (.scVector (cV L) (jV L))) β} {Q : β → sProp 𝕄} :
    iprop((bigSep Finset.univ fun i : Fin 3920 => xS.view.loc (thr d L) ↦[xS.view.set]{pieceOf q 15680 (by decide) ⟨koff + i.val, by omega⟩}
            (tab m d : Buf (Elt F) (xS.view.loc (thr d L))))
        ∗ (vV.view.loc (thr d L) ↦[(vS koff inb).view.set]{fullShare} fv)
        ∗ (fV.view.loc (thr d L) ↦[(fS koff inb).view.set]{fullShare} (list m d L : Buf (Elt F) (fV.view.loc (thr d L))))
        ∗ Transfers.Batch countersEmb (thr d L) (.dma cc0_scratch2.sem) (default : HIx 1) unit1 (Dl m d L q) koff 0)
      ⊢ iprop((Transfers.Batch countersEmb (thr d L) (.dma cc0_scratch2.sem) (default : HIx 1) unit1 (Dl m d L q) (koff + 3920) 0
            -∗ wp frame (wpE (defs₀ (F := F)) 𝒱₀ (thr d L) none) Set.univ (kk ⟨⟩) Q)
          -∗ wp frame (wpE (defs₀ (F := F)) 𝒱₀ (thr d L) none) Set.univ
              (SparseCore.enqueueIndirectGather rfl xS (vS koff inb) gathers_S33554432_S3920 (fS koff inb) rfl cc0_scratch2.sem
                (View.wordExact_bits rfl) rfl (Or.inl rfl) >>= kk) Q) := by
  refine StreamBatch.wp_indirectGatherBatch countersEmb 𝒱₀ (thr d L) none (hg := gathers_S33554432_S3920) (default : HIx 1) unit1
    (src := xS) (dst := vS koff inb) (offs := fS koff inb)
    (fs := tab m d) (fd := fv) (fo := list m d L) (qo := fullShare)
    (qk := fun i => pieceOf q 15680 (by decide) ⟨koff + i.val, by have := i.isLt; change i.val < 3920 at this; omega⟩)
    (credit_row koff inb) (by exact hk) (Nat.zero_le _) (list_in m hpre d L koff inb) (fun i => ?_)
  have hi : koff + i.val < 15680 := by have := i.isLt; change i.val < 3920 at this; omega
  unfold Dl
  refine sep_mono (sep_mono (Entails.of_eq ?_) (Entails.of_eq ?_)) (Entails.of_eq rfl)
  · refine (pointsTo_congr (g := (vals m d L : Buf (Elt F) (vV.view.loc (thr d L)))) fun z hz => ?_).trans (by rw [set_row koff inb i hi])
    obtain ⟨y, -, rfl⟩ := Finset.mem_map.mp hz
    refine (View.write_emb_of_mem _ _ (Finset.mem_univ y)).trans ?_
    refine (cast_eq _ _).trans ((View.read_apply _ _).trans ((cast_eq _ _).trans ?_))
    have hy : ((vS koff inb).view.slice (S3920.rowRect gathers_S33554432_S3920.axis' i)).emb y = at1 ⟨koff + i.val, hi⟩ :=
      Finset.mem_singleton.mp (by rw [← set_row koff inb i hi]; exact View.emb_mem_set _ y)
    rw [hy]
    refine congrArg (tab m d) (funext fun a => ?_)
    match a with
    | ⟨0, _⟩ => exact Fin.ext (by
        refine (show _ = (rows (F := F) ((fS koff inb).view.read (Elt F) (list m d L)) rfl (list_in m hpre d L koff inb) i).val from ?_).trans ?_
        · change 0 + 1 * _ = _
          rw [Nat.zero_add, Nat.one_mul]
          exact congrArg Fin.val (Shape.Gathers.rowIdx_axis gathers_S33554432_S3920 _ y)
        · exact (congrArg (fun z => (list m d L z).toNat)
              ((congrArg (kRect koff inb).emb (entry_eq i)).trans (emb_kRect koff inb i hi))).trans
            (Nat.mod_eq_of_lt (list_lt m hpre d L _)).symm)
  · exact congrArg (fun z => (fV.view.loc (thr d L) ↦[{z}]{fullShare} (list m d L : Buf (Elt F) (fV.view.loc (thr d L))) : sProp 𝕄))
      ((congrArg (kRect koff inb).emb (entry_eq i)).trans (emb_kRect koff inb i hi))

end Cert.Proof.Launch

end
-- ==== Proof.Stage.lean ====
/-
  One stage of a tile's work: a stretch of 3920 words is rearranged, and its gather is issued. Between stages a tile
  holds what lies at and after `koff` of its two scratch buffers and of its shares of the table, and the batch with the
  transfers before `koff` issued. The stage at any `koff` is proved here once; a tile runs four of them.
-/
module

public import proofs.«01_k».proof.Proof.Gather

@[expose] public section

noncomputable section

namespace Cert.Proof.Launch

open Cert.KernelIdeal Cert.KernelIdeal.Gen

open Idealize.ShloMosaic
open Idealize.ShloMosaic.SparseCore (S V T rows)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ

variable (m : (ℓ : Loc nD τ sig) → Buf (Elt F) ℓ)

/-- The places from `koff` on. -/
def rest (koff : ℕ) : Finset S15680.Idx := Finset.univ.filter fun i => koff ≤ (i 0).val

theorem mem_rest (koff : ℕ) (i : S15680.Idx) : i ∈ rest koff ↔ koff ≤ (i 0).val := by
  unfold rest; rw [Finset.mem_filter]; exact ⟨fun h => h.2, fun h => ⟨Finset.mem_univ _, h⟩⟩

theorem rest_zero : rest 0 = Finset.univ := by
  ext i; rw [mem_rest]; exact ⟨fun _ => Finset.mem_univ _, fun _ => Nat.zero_le _⟩

/-- The elements of a stretch. -/
theorem mem_stretch (koff : ℕ) (inb : ∀ a, (![koff] : Fin 1 → ℕ) a + S3920.size a ≤ S15680.size a) (i : S15680.Idx) :
    i ∈ (kRect koff inb).set ↔ koff ≤ (i 0).val ∧ (i 0).val < koff + 3920 := by
  rw [Rect.mem_set_unit]
  constructor
  · intro h; have := h 0; simp at this; omega
  · intro h a
    match a with
    | ⟨0, _⟩ => simp; omega

theorem stretch_sub (koff : ℕ) (inb : ∀ a, (![koff] : Fin 1 → ℕ) a + S3920.size a ≤ S15680.size a) : (kRect koff inb).set ⊆ rest koff :=
  fun i hi => (mem_rest koff i).mpr ((mem_stretch koff inb i).mp hi).1

theorem rest_diff (koff : ℕ) (inb : ∀ a, (![koff] : Fin 1 → ℕ) a + S3920.size a ≤ S15680.size a) :
    rest koff \ (kRect koff inb).set = rest (koff + 3920) := by
  ext i
  rw [Finset.mem_sdiff, mem_rest, mem_rest, mem_stretch]
  omega

/-- What a tile holds before the stage at `koff`. -/
abbrev stageSt (d : Dev nD) (L : grid0.Coords) (q : PosShare TreeShare) (fv : Buf (Elt F) (vV.view.loc (thr d L))) (koff : ℕ) : sProp 𝕄 :=
  iprop((fV.view.loc (thr d L) ↦[rest koff]{fullShare} (wordsIn m d L : Buf (Elt F) (fV.view.loc (thr d L))))
    ∗ (vV.view.loc (thr d L) ↦[rest koff]{fullShare} fv)
    ∗ (bigSep (Transfers.pending koff) fun t : Fin 15680 => xS.view.loc (thr d L) ↦[xS.view.set]{pieceOf q 15680 (by decide) t}
        (tab m d : Buf (Elt F) (xS.view.loc (thr d L))))
    ∗ Transfers.Batch countersEmb (thr d L) (.dma cc0_scratch2.sem) (default : HIx 1) unit1 (Dl m d L q) koff 0)

/-- The stage at `koff`: the loop over the stretch, then its gather. -/
theorem stage (hpre : PreOK m) (d : Dev nD) (L : grid0.Coords) (q : PosShare TreeShare) (fv : Buf (Elt F) (vV.view.loc (thr d L)))
    (koff : ℕ) (inb : ∀ a, (![koff] : Fin 1 → ℕ) a + S3920.size a ≤ S15680.size a) (hk : koff + 3920 ≤ 15680)
    (lp : Scf.Loop 32) (hok : lp.OK) (htr : lp.trips = 245)
    (off : Fin lp.trips → Fin 1 → ℕ) (hoff : ∀ t, off t = ![16 * t.val + koff]) (inbl : ∀ t, ∀ a, off t a + S16.size a ≤ S15680.size a)
    (pay : Vec F S16 .i32 → IVec S16 32) (hpay : ∀ v j, pay v j = conv (v j))
    {β : Type} {kk : PUnit → Prog (TpuEff nD τ sig (Elt F) Λ₀ (.scVector (cV L) (jV L))) β} {Q : β → sProp 𝕄} :
    stageSt m d L q fv koff
      ⊢ iprop((stageSt m d L q fv (koff + 3920) -∗ wp frame (wpE (defs₀ (F := F)) 𝒱₀ (thr d L) none) Set.univ (kk ⟨⟩) Q)
          -∗ wp frame (wpE (defs₀ (F := F)) 𝒱₀ (thr d L) none) Set.univ
              (Scf.Loop.for lp hok ⟨⟩ (fun t _ => tripProg (F := F) L (off t) (inbl t) pay) >>= fun _ =>
                SparseCore.enqueueIndirectGather rfl xS (vS koff inb) gathers_S33554432_S3920 (fS koff inb) rfl cc0_scratch2.sem
                  (View.wordExact_bits rfl) rfl (Or.inl rfl) >>= kk) Q) := by
  have hvs : (vS koff inb).view.set = (kRect koff inb).set := View.set_slice_whole (cc0_scratch1 : Ref sig .scVector) (kRect koff inb)
  have hfs : (fS koff inb).view.set = (kRect koff inb).set := View.set_slice_whole (cc0_scratch0 : Ref sig .scVector) (kRect koff inb)
  iintro ⟨Hf, Hv, Hx, HB⟩ Hk
  iapply (loop d L koff lp hok htr off hoff inbl pay hpay (rest koff) (fun i h _ => (mem_rest koff i).mpr h) (wordsIn m d L)) $$ Hf
  iintro Hf
  ihave Hf2 := (pointsTo_split_subset (q := fullShare) (f := (mix koff 245 (wordsIn m d L) : Buf (Elt F) (fV.view.loc (thr d L))))
    (stretch_sub koff inb)).1 $$ Hf
  icases Hf2 with ⟨Hf, Hfr⟩
  ihave Hv2 := (pointsTo_split_subset (q := fullShare) (f := fv) (stretch_sub koff inb)).1 $$ Hv
  icases Hv2 with ⟨Hv, Hvr⟩
  ihave Hx2 := (Entails.of_eq (StreamBatch.bigSep_pending_range (fun t : Fin 15680 => (xS.view.loc (thr d L) ↦[xS.view.set]{pieceOf q 15680 _ t}
        (tab m d : Buf (Elt F) (xS.view.loc (thr d L))) : sProp 𝕄)) koff 3920 hk)) $$ Hx
  icases Hx2 with ⟨Hx, Hxr⟩
  have e1 : (fV.view.loc (thr d L) ↦[(kRect koff inb).set]{fullShare} (mix koff 245 (wordsIn m d L) : Buf (Elt F) (fV.view.loc (thr d L))) : sProp 𝕄)
      = (fV.view.loc (thr d L) ↦[(fS koff inb).view.set]{fullShare} (list m d L : Buf (Elt F) (fV.view.loc (thr d L)))) := by
    rw [hfs]
    refine pointsTo_congr fun i hi => ?_
    have h := (mem_stretch koff inb i).mp hi
    exact if_pos (by omega)
  have e2 : (fV.view.loc (thr d L) ↦[rest koff \ (kRect koff inb).set]{fullShare} (mix koff 245 (wordsIn m d L) : Buf (Elt F) (fV.view.loc (thr d L))) : sProp 𝕄)
      = (fV.view.loc (thr d L) ↦[rest (koff + 3920)]{fullShare} (wordsIn m d L : Buf (Elt F) (fV.view.loc (thr d L)))) := by
    rw [rest_diff]
    refine pointsTo_congr fun i hi => ?_
    have h := (mem_rest (koff + 3920) i).mp hi
    exact if_neg (by omega)
  have e3 : (vV.view.loc (thr d L) ↦[(kRect koff inb).set]{fullShare} fv : sProp 𝕄) = (vV.view.loc (thr d L) ↦[(vS koff inb).view.set]{fullShare} fv) := by
    rw [hvs]
  have e4 : (vV.view.loc (thr d L) ↦[rest koff \ (kRect koff inb).set]{fullShare} fv : sProp 𝕄) = (vV.view.loc (thr d L) ↦[rest (koff + 3920)]{fullShare} fv) := by
    rw [rest_diff]
  iapply (gather m hpre d L q koff inb hk fv) $$ [Hf Hv Hx HB]
  · isplitl [Hx]; · iexact Hx
    isplitl [Hv]; · iapply (Entails.of_eq e3) $$ Hv
    isplitl [Hf]; · iapply (Entails.of_eq e1) $$ Hf
    iexact HB
  iintro HB
  iapply Hk
  isplitl [Hfr]; · iapply (Entails.of_eq e2) $$ Hfr
  isplitl [Hvr]; · iapply (Entails.of_eq e4) $$ Hvr
  isplitl [Hxr]; · iexact Hxr
  iexact HB

end Cert.Proof.Launch

end
-- ==== Proof.Tile.lean ====
/-
  What one tile does, at a symbolic grid point: its window of the words is copied in, the four stages rearrange them
  and issue the gathers, the four waits collect all 15680 transfers of the batch, and the values are copied out to the
  window of the result in write mode.
-/
module

public import proofs.«01_k».proof.Proof.Stage

@[expose] public section

noncomputable section

namespace Cert.Proof.Launch

open Cert.KernelIdeal Cert.KernelIdeal.Gen

open Idealize.ShloMosaic
open Idealize.ShloMosaic.SparseCore (S V T rows)
open Idealize.ShloMosaic.SparseCore.Cfg (HIx Pay tileRest ownBufs ownSems0 ownCells ownRefs mem_ownCells mem_ownRefs)
open Idealize.ShloMosaic.ValueIdx (ix1 eq_ix1)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ

variable (m : (ℓ : Loc nD τ sig) → Buf (Elt F) ℓ)

/-! ## The four loops, each a run of the one trip -/

theorem t1_eq (L : grid0.Coords) (a b : _) : k0_t1_body (F := F) L xV (Memref.isWhole_whole _) wV (Memref.isWhole_whole _) oV (Memref.isWhole_whole _)
      fV (Memref.isWhole_whole _) vV (Memref.isWhole_whole _) cc0_scratch2 a b
    = fun t _ => tripProg (F := F) L (k0_off2 t) (k0_off2_inb t) k0_pay2 := rfl
theorem t2_eq (L : grid0.Coords) (a b : _) : k0_t2_body (F := F) L xV (Memref.isWhole_whole _) wV (Memref.isWhole_whole _) oV (Memref.isWhole_whole _)
      fV (Memref.isWhole_whole _) vV (Memref.isWhole_whole _) cc0_scratch2 a b
    = fun t _ => tripProg (F := F) L (k0_off3 t) (k0_off3_inb t) k0_pay3 := rfl
theorem t3_eq (L : grid0.Coords) (a b : _) : k0_t3_body (F := F) L xV (Memref.isWhole_whole _) wV (Memref.isWhole_whole _) oV (Memref.isWhole_whole _)
      fV (Memref.isWhole_whole _) vV (Memref.isWhole_whole _) cc0_scratch2 a b
    = fun t _ => tripProg (F := F) L (k0_off4 t) (k0_off4_inb t) k0_pay4 := rfl
theorem t4_eq (L : grid0.Coords) (a b : _) : k0_t4_body (F := F) L xV (Memref.isWhole_whole _) wV (Memref.isWhole_whole _) oV (Memref.isWhole_whole _)
      fV (Memref.isWhole_whole _) vV (Memref.isWhole_whole _) cc0_scratch2 a b
    = fun t _ => tripProg (F := F) L (k0_off5 t) (k0_off5_inb t) k0_pay1 := rfl

theorem trips1 : k0_t1_loop.trips = 245 := by decide +kernel
theorem trips2 : k0_t2_loop.trips = 245 := by decide +kernel
theorem trips3 : k0_t3_loop.trips = 245 := by decide +kernel
theorem trips4 : k0_t4_loop.trips = 245 := by decide +kernel

/-! ## The first part: the copy in, and three stages -/

/-- The tile's window of the words, as the copy names it. -/
abbrev wS (L : grid0.Coords) : Memref sig .scVector .hbm S15680 .i32 := wV.slice (wRect L) (fun _ => rfl)
/-- Its window of the result. -/
abbrev oS (L : grid0.Coords) : Memref sig .scVector .hbm S15680 .f32 := oV.slice (wRect L) (fun _ => rfl)

theorem set_wS (L : grid0.Coords) : (wS L).view.set = win L := View.set_slice_whole (main_v9_scv : Ref sig .scVector) (wRect L)
theorem set_oS (L : grid0.Coords) : (oS L).view.set = win L := View.set_slice_whole (main_v10_scv : Ref sig .scVector) (wRect L)

theorem set_xS : xS.view.set = Finset.univ := by
  refine (View.set_slice_whole (main_v2_scv : Ref sig .scVector) _).trans ?_
  ext i
  rw [Rect.mem_set_unit]
  refine ⟨fun _ => Finset.mem_univ _, fun _ a => ?_⟩
  match a with
  | ⟨0, _⟩ => exact ⟨Nat.zero_le _, (Nat.zero_add (S33554432.size 0)).symm ▸ (i 0).isLt⟩

/-- The whole table's share is all the transfers' shares. -/
theorem x_shares (d : Dev nD) (L : grid0.Coords) (q : PosShare TreeShare) :
    (xPts m d q : sProp 𝕄) = bigSep Finset.univ fun t : Fin 15680 => xS.view.loc (thr d L) ↦[xS.view.set]{pieceOf q 15680 (by decide) t}
        (tab m d : Buf (Elt F) (xS.view.loc (thr d L))) := by
  have h := pointsTo_piecesOf (Val := Elt F) (Ix := HIx 1) (Name := ℕ) (U := UU F) (Lvl := ℕ) (ℓ := xS.view.loc (thr d L)) xS.view.set
    (tab m d : Buf (Elt F) (xS.view.loc (thr d L))) (o := 15680) (by decide) q
  refine Eq.trans ?_ h
  rw [set_xS]

/-- All transfers delivered: the values, the list, the share of the table. -/
theorem delivered (d : Dev nD) (L : grid0.Coords) (q : PosShare TreeShare) :
    (bigSep Finset.univ (Dl m d L q) : sProp 𝕄)
      = iprop(((vV.view.loc (thr d L) ↦[vV.view.set]{fullShare} (vals m d L : Buf (Elt F) (vV.view.loc (thr d L))))
        ∗ (fV.view.loc (thr d L) ↦[fV.view.set]{fullShare} (list m d L : Buf (Elt F) (fV.view.loc (thr d L)))))
        ∗ xPts m d q) := by
  have hb : Function.Bijective at1 := ⟨fun a b h => congrFun h 0, fun i => ⟨i 0, (eq_ix1 i).symm⟩⟩
  rw [pointsTo_entries (thr d L) vV.view at1 hb, pointsTo_entries (thr d L) fV.view at1 hb, x_shares m d L q, ← bigSep_sep', ← bigSep_sep']
  rfl

abbrev semIn (d : Dev nD) (L : grid0.Coords) : GSem nD τ sig := (thr d L, .dma cc0_scoped0.sem)
abbrev semOut (d : Dev nD) (L : grid0.Coords) : GSem nD τ sig := (thr d L, .dma cc0_scoped1.sem)
abbrev semGather (d : Dev nD) (L : grid0.Coords) : GSem nD τ sig := (thr d L, .dma cc0_scratch2.sem)

set_option maxHeartbeats 1000000 in
/-- The first part of a tile's program: the copy in and its wait, three stages. -/
theorem part1 (hpre : PreOK m) (d : Dev nD) (L : grid0.Coords) (q : PosShare TreeShare)
    (f0 : Buf (Elt F) (fV.view.loc (thr d L))) (fv : Buf (Elt F) (vV.view.loc (thr d L)))
    (O : CellTallies nD τ sig (HIx 1)) (W : Waits sig (HIx 1)) :
    iprop(Transfers.MayWaits (thr d L) (default : HIx 1) O ∗ xPts m d q ∗ wPts m d q
        ∗ (fV.view.loc (thr d L) ↦{fullShare} f0) ∗ (vV.view.loc (thr d L) ↦{fullShare} fv)
        ∗ semVal (semIn d L) 0 ∗ semVal (semGather d L) 0 ∗ owes (thr d L) O W)
      ⊢ wp frame (wpE (defs₀ (F := F)) 𝒱₀ (thr d L) none) Set.univ
          (k0_part1 (F := F) L xV (Memref.isWhole_whole _) wV (Memref.isWhole_whole _) oV (Memref.isWhole_whole _)
            fV (Memref.isWhole_whole _) vV (Memref.isWhole_whole _) cc0_scratch2 cc0_scoped0 cc0_scoped1)
          fun _ => iprop(stageSt m d L q fv 11760 ∗ wPts m d q ∗ semVal (semIn d L) 0
            ∗ owes (thr d L) O (insert (SemLoc.dma cc0_scoped0.sem, (default : HIx 1)) W)) := by
  rw [k0_part1_eq_skeleton]
  unfold k0_part1_skel
  rw [t1_eq, t2_eq, t3_eq]
  iintro ⟨#Hmw, Hx, Hw, Hf, Hv, Hsi, Hsg, HO⟩
  ihave Hw2 := (pointsTo_split_subset (q := q) (f := (fl m d : Buf (Elt F) (wLoc d))) (S := Finset.univ) (Finset.subset_univ (win L))).1 $$ Hw
  icases Hw2 with ⟨Hw, Hwr⟩
  have e1 : (wLoc d ↦[win L]{q} (fl m d : Buf (Elt F) (wLoc d)) : sProp 𝕄)
      = ((wS L).view.loc (thr d L) ↦[(wS L).view.set]{q} (fl m d : Buf (Elt F) ((wS L).view.loc (thr d L)))) := by rw [set_wS]
  iapply (Transfers.wp_dmaLocal countersEmb 𝒱₀ (thr d L) none (src := wS L) (dst := fV) (q := q) (fs := fl m d) (Sd := Finset.univ) (fd := f0)
    (default : HIx 1) fV.view.dmaCredit rfl (by decide) (Finset.subset_univ _)) $$ [Hw Hf Hsi]
  · isplitl [Hw]; · iapply (Entails.of_eq e1) $$ Hw
    isplitl [Hf]; · iexact Hf
    iexact Hsi
  iintro Hfl
  iapply (Transfers.wp_waitLocalO countersEmb 𝒱₀ (thr d L) none (default : HIx 1) (rfl : fV.view.dmaCredit = _)) $$ [Hfl HO]
  · isplitl [Hfl]; · iexact Hfl
    isplitl [HO]; · iexact HO
    iapply (Transfers.MayWaits.elim (SemLoc.dma cc0_scoped0.sem)) $$ Hmw
  iintro ⟨⟨Hf, Hw⟩, Hsi, HO⟩
  imod (Transfers.batch_alloc' countersEmb (thr d L) (sm := .dma cc0_scratch2.sem) (default : HIx 1) unit1 (Dl m d L q)) $$ Hsg with HB
  have e2 : (fV.view.loc (thr d L) ↦{fullShare} fV.view.write (Elt F) f0 ((wS L).view.read (Elt F) (fl m d)) Finset.univ : sProp 𝕄)
      = (fV.view.loc (thr d L) ↦[rest 0]{fullShare} (wordsIn m d L : Buf (Elt F) (fV.view.loc (thr d L)))) := by
    rw [rest_zero]
    refine pointsTo_congr fun i _ => ?_
    exact (congrFun (View.write_whole_univ (Val := Elt F) (cc0_scratch0 : Ref sig .scVector) f0 _) i).trans ((View.read_apply _ _).trans (cast_eq _ _))
  have e3 : (vV.view.loc (thr d L) ↦{fullShare} fv : sProp 𝕄) = (vV.view.loc (thr d L) ↦[rest 0]{fullShare} fv) := by rw [rest_zero]
  ihave Hst : stageSt m d L q fv 0 $$ [Hf Hv Hx HB]
  · isplitl [Hf]; · iapply (Entails.of_eq e2) $$ Hf
    isplitl [Hv]; · iapply (Entails.of_eq e3) $$ Hv
    isplitl [Hx]
    · rw [Transfers.pending_zero]
      iapply (Entails.of_eq (x_shares m d L q)) $$ Hx
    iexact HB
  iapply (stage m hpre d L q fv 0 inb_S15680_S3920_0 (by decide) k0_t1_loop k0_t1_ok trips1 k0_off2 k0_off2_eq k0_off2_inb k0_pay2 pay2_apply) $$ Hst
  iintro Hst
  iapply (stage m hpre d L q fv 3920 inb_S15680_S3920_3920 (by decide) k0_t2_loop k0_t2_ok trips2 k0_off3 k0_off3_eq k0_off3_inb k0_pay3 pay3_apply) $$ Hst
  iintro Hst
  iapply (stage m hpre d L q fv 7840 inb_S15680_S3920_7840 (by decide) k0_t3_loop k0_t3_ok trips3 k0_off4 k0_off4_eq k0_off4_inb k0_pay4 pay4_apply) $$ Hst
  iintro Hst
  rw [wp_pure]
  imodintro
  isplitl [Hst]; · iexact Hst
  isplitl [Hw Hwr]
  · iapply (pointsTo_split_subset (q := q) (f := (fl m d : Buf (Elt F) (wLoc d))) (S := Finset.univ) (Finset.subset_univ (win L))).2
    isplitl [Hw]; · iapply (Entails.of_eq e1.symm) $$ Hw
    iexact Hwr
  isplitl [Hsi]; · iexact Hsi
  iexact HO

/-! ## The whole tile -/

/-- What the copy out writes is what every element of the window must hold. -/
theorem admitted (d : Dev nD) (L : grid0.Coords) :
    (oS L).view.Admitted (Elt F) (tgt m d) (vals m d L) Finset.univ :=
  View.admitted_some_iff.mpr fun _ _ => ((View.read_apply _ _).trans (cast_eq _ _)).symm

set_option maxHeartbeats 2000000 in
/-- A tile's program: from its share of the three buffers, of which it writes its window of the result. -/
theorem program (hpre : PreOK m) (d : Dev nD) (L : grid0.Coords) (q : PosShare TreeShare)
    (f0 : Buf (Elt F) (fV.view.loc (thr d L))) (fv : Buf (Elt F) (vV.view.loc (thr d L)))
    (O : CellTallies nD τ sig (HIx 1)) (W : Waits sig (HIx 1)) :
    iprop(Transfers.MayWaits (thr d L) (default : HIx 1) O ∗ wmOn (F := F) ∗ held3 m d q ∅
        ∗ (fV.view.loc (thr d L) ↦{fullShare} f0) ∗ (vV.view.loc (thr d L) ↦{fullShare} fv)
        ∗ semVal (semIn d L) 0 ∗ semVal (semGather d L) 0 ∗ semVal (semOut d L) 0 ∗ owes (thr d L) O W)
      ⊢ wp frame (wpE (defs₀ (F := F)) 𝒱₀ (thr d L) none) Set.univ
          (cc0__sc_gather (F := F) L xV (Memref.isWhole_whole _) wV (Memref.isWhole_whole _) oV (Memref.isWhole_whole _)
            fV (Memref.isWhole_whole _) vV (Memref.isWhole_whole _) cc0_scratch2 cc0_scoped0 cc0_scoped1)
          fun _ => iprop(held3 m d q (win L)
            ∗ (∃ f, fV.view.loc (thr d L) ↦{fullShare} f) ∗ (∃ f, vV.view.loc (thr d L) ↦{fullShare} f)
            ∗ semVal (semIn d L) 0 ∗ semVal (semGather d L) 0 ∗ semVal (semOut d L) 0
            ∗ ∃ W', ⌜∀ p ∈ W', p ∈ W ∨ p.2 = none⌝ ∗ owes (thr d L) O W') := by
  rw [cc0__sc_gather_eq_skeleton]
  unfold cc0__sc_gather_skel
  rw [t4_eq]
  iintro ⟨#Hmw, ⟨%ιw, #Hwm⟩, ⟨Hx, Hw, Ho⟩, Hf, Hv, Hsi, Hsg, Hso, HO⟩
  rw [wp_bind]
  iapply (wp_wand frame _ _) $$ [Hx Hw Hf Hv Hsi Hsg HO]
  · iapply (part1 m hpre d L q f0 fv O W)
    isplitr; · iexact Hmw
    isplitl [Hx]; · iexact Hx
    isplitl [Hw]; · iexact Hw
    isplitl [Hf]; · iexact Hf
    isplitl [Hv]; · iexact Hv
    isplitl [Hsi]; · iexact Hsi
    isplitl [Hsg]; · iexact Hsg
    iexact HO
  iintro %r ⟨Hst, Hw, Hsi, HO⟩
  iapply (stage m hpre d L q fv 11760 inb_S15680_S3920_11760 (by decide) k0_t4_loop k0_t4_ok trips4 k0_off5 k0_off5_eq k0_off5_inb k0_pay1 pay1_apply) $$ Hst
  iintro ⟨-, -, -, HB⟩
  iapply (Transfers.wp_waitBatchMulO countersEmb 𝒱₀ (thr d L) none (default : HIx 1) (N := unit1) 3920 (credit_stretch 0 inb_S15680_S3920_0)
    (j := 15680) (u := 0) (by decide)) $$ [HB HO]
  · isplitl [HB]; · iexact HB
    isplitl [HO]; · iexact HO
    iapply (Transfers.MayWaits.elim (SemLoc.dma cc0_scratch2.sem)) $$ Hmw
  iintro ⟨HB, HO⟩
  iapply (Transfers.wp_waitBatchMulO countersEmb 𝒱₀ (thr d L) none (default : HIx 1) (N := unit1) 3920 (credit_stretch 3920 inb_S15680_S3920_3920)
    (j := 15680) (u := 0 + 3920 * unit1) (by decide)) $$ [HB HO]
  · isplitl [HB]; · iexact HB
    isplitl [HO]; · iexact HO
    iapply (Transfers.MayWaits.elim (SemLoc.dma cc0_scratch2.sem)) $$ Hmw
  iintro ⟨HB, HO⟩
  iapply (Transfers.wp_waitBatchMulO countersEmb 𝒱₀ (thr d L) none (default : HIx 1) (N := unit1) 3920 (credit_stretch 7840 inb_S15680_S3920_7840)
    (j := 15680) (u := 0 + 3920 * unit1 + 3920 * unit1) (by decide)) $$ [HB HO]
  · isplitl [HB]; · iexact HB
    isplitl [HO]; · iexact HO
    iapply (Transfers.MayWaits.elim (SemLoc.dma cc0_scratch2.sem)) $$ Hmw
  iintro ⟨HB, HO⟩
  iapply (Transfers.wp_waitBatchAllO countersEmb 𝒱₀ (thr d L) none (default : HIx 1) (N := unit1) (credit_stretch 11760 inb_S15680_S3920_11760)
    unit1_pos (n := 15680) (u := 0 + 3920 * unit1 + 3920 * unit1 + 3920 * unit1) (by decide)) $$ [HB HO]
  · isplitl [HB]; · iexact HB
    isplitl [HO]; · iexact HO
    iapply (Transfers.MayWaits.elim (SemLoc.dma cc0_scratch2.sem)) $$ Hmw
  iintro ⟨HD, Hsg, HO⟩
  ihave HD2 := (Entails.of_eq (delivered m d L q)) $$ HD
  icases HD2 with ⟨⟨Hv, Hf⟩, Hx⟩
  imod (Transfers.flight_alloc countersEmb (N := (oS L).view.dmaCredit) (show 0 < vV.view.dmaCredit by decide)
    iprop(oWill m d q (∅ ∪ (oS L).view.set) ∗ (vV.view.loc (thr d L) ↦[vV.view.set]{fullShare} (vals m d L : Buf (Elt F) (vV.view.loc (thr d L)))))
    (g := semOut d L)) $$ Hso with ⟨%γ, %δ, %κ, #Hinv, Hγ, Hδ⟩
  iapply (wp_enqueueDmaAs 𝒱₀ (thr d L) none Set.univ (src := vV) (dst := oS L) (q := fullShare) (fs := vals m d L)
    (R := oWill m d q (∅ ∪ (oS L).view.set)) (default : HIx 1) (oS L).view.dmaCredit rfl) $$ [Hv Ho] [Hγ]
  · isplitl [Hv]; · iexact Hv
    iapply (willBeTo_writeUpdate (emb := eW) (ιwm := ιw) (thr d L) (v := (oS L).view) (S := Finset.univ) (q := q) (f := m (oLoc d)) (g := tgt m d) (W := ∅)
      (Finset.subset_univ _) (admitted m d L))
    isplitr; · iexact Hwm
    iexact Ho
  · iapply (Transfers.flight_creditUpdate countersEmb (δ := δ))
    isplitr; · iexact Hinv
    iexact Hγ
  iintro Hcred
  ihave Hfl := (Transfers.flight_intro countersEmb (thr d L) (ι := (default : HIx 1)) (κ := κ) (γ := γ) (δ := δ)) $$ [Hδ Hcred]
  · isplitr; · iexact Hinv
    isplitl [Hδ] <;> iassumption
  iapply (Transfers.wp_waitLocalO countersEmb 𝒱₀ (thr d L) none (default : HIx 1) (rfl : (oS L).view.dmaCredit = _)) $$ [Hfl HO]
  · isplitl [Hfl]; · iexact Hfl
    isplitl [HO]; · iexact HO
    iapply (Transfers.MayWaits.elim (SemLoc.dma cc0_scoped1.sem)) $$ Hmw
  iintro ⟨⟨Ho, Hv⟩, Hso, HO⟩
  simp only [Prog.bind, wp_pure]
  imodintro
  isplitl [Hx Hw Ho]
  · isplitl [Hx]; · iexact Hx
    isplitl [Hw]; · iexact Hw
    iapply (Entails.of_eq (congrArg (fun S => (oWill m d q S : sProp 𝕄)) ((Finset.empty_union _).trans (set_oS L)))) $$ Ho
  isplitl [Hf]
  · iexists (list m d L)
    iapply (Entails.of_eq (congrArg (fun S => (fV.view.loc (thr d L) ↦[S]{fullShare} (list m d L : Buf (Elt F) (fV.view.loc (thr d L))) : sProp 𝕄))
      (View.set_whole (cc0_scratch0 : Ref sig .scVector)))) $$ Hf
  isplitl [Hv]
  · iexists (vals m d L)
    iapply (Entails.of_eq (congrArg (fun S => (vV.view.loc (thr d L) ↦[S]{fullShare} (vals m d L : Buf (Elt F) (vV.view.loc (thr d L))) : sProp 𝕄))
      (View.set_whole (cc0_scratch1 : Ref sig .scVector)))) $$ Hv
  isplitl [Hsi]; · iexact Hsi
  isplitl [Hsg]; · iexact Hsg
  isplitl [Hso]; · iexact Hso
  iexists _
  isplitr
  swap; · iexact HO
  ipureintro
  intro p hp
  simp only [Finset.mem_insert] at hp
  rcases hp with h | h | h | h | h | h | h
  all_goals first | exact .inl h | exact .inr (h ▸ rfl)

/-! ## The task as the launch states it -/

theorem ownSems0_V (d : Dev nD) (L : grid0.Coords) :
    (ownSems0 (thr d L) : sProp 𝕄)
      = iprop(semVal (semIn d L) 0 ∗ semVal (semGather d L) 0 ∗ semVal (semOut d L) 0
          ∗ bigSep ((((ownCells (thr d L)).erase (semIn d L)).erase (semGather d L)).erase (semOut d L)) fun g => semVal g 0) := by
  unfold SparseCore.Cfg.ownSems0
  rw [SparseCore.bigSep_erase' ((mem_ownCells (g := semIn d L)).mpr ⟨rfl, by
      show (SemLoc.dma cc0_scoped0.sem : SemLoc sig).isScoped .scVector = true; decide⟩),
    SparseCore.bigSep_erase' (Finset.mem_erase.mpr ⟨by simp [semIn, semGather]; decide, (mem_ownCells (g := semGather d L)).mpr ⟨rfl, by
      show (SemLoc.dma cc0_scratch2.sem : SemLoc sig).isScoped .scVector = true; decide⟩⟩),
    SparseCore.bigSep_erase' (Finset.mem_erase.mpr ⟨by simp [semOut, semGather]; decide, Finset.mem_erase.mpr ⟨by simp [semIn, semOut]; decide,
      (mem_ownCells (g := semOut d L)).mpr ⟨rfl, by show (SemLoc.dma cc0_scoped1.sem : SemLoc sig).isScoped .scVector = true; decide⟩⟩⟩)]

/-- A tile's own buffers: its two scratch buffers at some contents, and the rest. -/
theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The task at a grid point, among all that its thread owns. -/
theorem task (hpre : PreOK m) (d : Dev nD) (L : grid0.Coords) (q : PosShare TreeShare)
    (O : CellTallies nD τ sig (HIx 1)) (W : Waits sig (HIx 1)) (hO : ∀ g, O g none = 0) :
    iprop(levAts (K (F := F)).L (K (F := F)).lev ∗ wmOn (F := F) ∗ held3 m d q ∅
        ∗ scopedBufs (thr d L) ∗ scopedSems0 (thr d L) ∗ owes (thr d L) O W)
      ⊢ wp frame (wpE (defs₀ (F := F)) 𝒱₀ (thr d L) none) Set.univ
          (cc0__sc_gather (F := F) L xV (Memref.isWhole_whole _) wV (Memref.isWhole_whole _) oV (Memref.isWhole_whole _)
            fV (Memref.isWhole_whole _) vV (Memref.isWhole_whole _) cc0_scratch2 cc0_scoped0 cc0_scoped1)
          fun _ => iprop(held3 m d q (win L) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V facts d (cV L) (jV L), SparseCore.Cfg.scopedSems0_V (Val := Elt F) d (cV L) (jV L), ownSems0_V, ownBufs_V]
  iintro ⟨#Hlv, Hwm, Hh, ⟨⟨%f0, Hf⟩, ⟨%fv, Hv⟩, Hbufs⟩, ⟨Hsi, Hsg, Hso, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_wand frame _ _) $$ [Hmw Hwm Hh Hf Hv Hsi Hsg Hso HO]
  · iapply (program m hpre d L q f0 fv O W)
    isplitl [Hmw]; · iexact Hmw
    isplitl [Hwm]; · iexact Hwm
    isplitl [Hh]; · iexact Hh
    isplitl [Hf]; · iexact Hf
    isplitl [Hv]; · iexact Hv
    isplitl [Hsi]; · iexact Hsi
    isplitl [Hsg]; · iexact Hsg
    isplitl [Hso]; · iexact Hso
    iexact HO
  iintro %r ⟨Hh, Hf, Hv, Hsi, Hsg, Hso, %W', %hW', HO⟩
  isplitl [Hh]; · iexact Hh
  isplitl [Hf Hv Hbufs]
  · isplitl [Hf]; · iexact Hf
    isplitl [Hv]; · iexact Hv
    iexact Hbufs
  isplitl [Hsi Hsg Hso Hsems]
  · isplitl [Hsi]; · iexact Hsi
    isplitl [Hsg]; · iexact Hsg
    isplitl [Hso]; · iexact Hso
    iexact Hsems
  iexists W'
  isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__sc_gather (F := F) (pt c s)
          xV (Memref.isWhole_whole _) wV (Memref.isWhole_whole _) oV (Memref.isWhole_whole _)
          fV (Memref.isWhole_whole _) vV (Memref.isWhole_whole _) cc0_scratch2 cc0_scoped0 cc0_scoped1) ⟨⟩ c s := rfl

set_option maxRecDepth 16384 in
/-- Every tile of the call does its task. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task m hpre d (pt ⟨_, hci.1⟩ ⟨_, hci.2⟩) (tq (Fin.cast nCore_zero c) (Fin.cast nSub_zero i)) O W hO

end Cert.Proof.Launch

end
-- ==== Proof.Host.lean ====
/-
  @main's operations before the SparseCore call, as one straight line run over all of the TensorCore's arrays, and what
  the arrays that matter hold after it: the table laid out (`tab`), the index words (`fl`), the arguments and the
  result's array untouched.
-/
module

public import proofs.«01_k».proof.Proof.Setup
public import Idealize.ShloMosaic.Lib.Pipeline.Frame

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type} [FloatOps F]

local notation "𝕄" => MT nD τ sig (HIx 1) (Elt F) ℕ (UU F) ℕ

variable (m : (ℓ : Loc nD τ sig) → Buf (Elt F) ℓ) (ρ : Dev nD → PrngReg)

/-- The operations, in the order they run: the table's three, then the words'. -/
def ops : List (HloOp τ sig (Elt F)) :=
  [StableHlo.reshape main_arg0 main_v0 (rfl : (.f32 : EltTy) = .f32) shapeCasts_S4096x8192_S512x8x64x128,
   StableHlo.unary main_v0 main_v1 ((transpose S512x64x8x128 [0, 2, 1, 3] · transposes_S512x8x64x128_S512x64x8x128_0_2_1_3) : (⟨S512x8x64x128, .f32⟩ : BufTy).Contents (Elt F) → (⟨S512x64x8x128, .f32⟩ : BufTy).Contents (Elt F)),
   StableHlo.reshape main_v1 main_v2 (rfl : (.f32 : EltTy) = .f32) shapeCasts_S512x64x8x128_S33554432,
   StableHlo.unary main_arg1 main_v3 ((extractStridedSlice S500000x1 ![0, 0] · slices_S500000x2_S500000x1_0_0) : (⟨S500000x2, .i32⟩ : BufTy).Contents (Elt F) → (⟨S500000x1, .i32⟩ : BufTy).Contents (Elt F)),
   StableHlo.reshape main_v3 main_v4 (rfl : (.i32 : EltTy) = .i32) shapeCasts_S500000x1_S500000,
   StableHlo.nullary main_c (constantI S_ 32 13#32),
   StableHlo.unary main_c main_v5 (broadcastInDim S500000 ![] bcast_S_S500000 : (⟨S_, .i32⟩ : BufTy).Contents (Elt F) → (⟨S500000, .i32⟩ : BufTy).Contents (Elt F)),
   StableHlo.binary main_v4 main_v5 main_v6 (Host.shli : (⟨S500000, .i32⟩ : BufTy).Contents (Elt F) → (⟨S500000, .i32⟩ : BufTy).Contents (Elt F) → (⟨S500000, .i32⟩ : BufTy).Contents (Elt F)),
   StableHlo.unary main_arg1 main_v7 ((extractStridedSlice S500000x1 ![0, 1] · slices_S500000x2_S500000x1_0_1) : (⟨S500000x2, .i32⟩ : BufTy).Contents (Elt F) → (⟨S500000x1, .i32⟩ : BufTy).Contents (Elt F)),
   StableHlo.reshape main_v7 main_v8 (rfl : (.i32 : EltTy) = .i32) shapeCasts_S500000x1_S500000,
   StableHlo.binary main_v6 main_v8 main_v9 (ori : (⟨S500000, .i32⟩ : BufTy).Contents (Elt F) → (⟨S500000, .i32⟩ : BufTy).Contents (Elt F) → (⟨S500000, .i32⟩ : BufTy).Contents (Elt F))]

/-- @main is that line, then the call. -/
theorem main_eq (d : Dev nD) :
    main (F := F) d = StableHlo.seq (ops (F := F)) >>= fun _ => ((K (F := F)).run d 0 >>= fun _ => pure ⟨⟩) :=
  Eq.trans rfl (StableHlo.seq_bind_seqK (ops (F := F)) ((K (F := F)).run d 0 >>= fun _ => pure ⟨⟩)).symm

/-- The arrays' contents at the launch. -/
def V0 (d : Dev nD) : Valuation τ sig (Elt F) := fun b => m (d, b)

theorem ops_fresh : ∀ op ∈ ops (F := F), op.fresh = ∅ :=
  List.forall_iff_forall_mem.mp
    (show (ops (F := F)).Forall fun op => op.fresh = ∅ from ⟨rfl, rfl, rfl, rfl, rfl, rfl, rfl, rfl, rfl, rfl, rfl⟩)

theorem ops_bufs : ∀ op ∈ ops (F := F), op.bufs ⊆ StableHlo.tcRefs τ sig :=
  List.forall_iff_forall_mem.mp (show (ops (F := F)).Forall fun op => op.bufs ⊆ StableHlo.tcRefs τ sig from
    ⟨StableHlo.reshape_bufs_sub .., StableHlo.unary_bufs_sub .., StableHlo.reshape_bufs_sub .., StableHlo.unary_bufs_sub ..,
      StableHlo.reshape_bufs_sub .., StableHlo.nullary_bufs_sub .., StableHlo.unary_bufs_sub .., StableHlo.binary_bufs_sub ..,
      StableHlo.unary_bufs_sub .., StableHlo.reshape_bufs_sub .., StableHlo.binary_bufs_sub ..⟩)

abbrev a' : DevRef τ sig := Proc.devRef .tc (main_arg0 : Ref sig .tc)
abbrev i' : DevRef τ sig := Proc.devRef .tc (main_arg1 : Ref sig .tc)
abbrev x' : DevRef τ sig := Proc.devRef .tc (main_v2 : Ref sig .tc)
abbrev w' : DevRef τ sig := Proc.devRef .tc (main_v9 : Ref sig .tc)
abbrev o' : DevRef τ sig := Proc.devRef .tc (main_v10 : Ref sig .tc)

theorem after_a (d : Dev nD) : StableHlo.after (ops (F := F)) (V0 m d) a' = m (aLoc d) := by
  unfold ops
  after_results
  rfl
theorem after_i (d : Dev nD) : StableHlo.after (ops (F := F)) (V0 m d) i' = m (iLoc d) := by
  unfold ops
  after_results
  rfl
theorem after_o (d : Dev nD) : StableHlo.after (ops (F := F)) (V0 m d) o' = m (oLoc d) := by
  unfold ops
  after_results
  rfl

theorem after_x (d : Dev nD) : StableHlo.after (ops (F := F)) (V0 m d) x' = (tab m d : Buf (Elt F) (xLoc d)) := by
  unfold ops tab
  after_results
  rfl

theorem after_w (d : Dev nD) : StableHlo.after (ops (F := F)) (V0 m d) w' = (fl m d : Buf (Elt F) (wLoc d)) := by
  unfold ops fl
  after_results
  rfl

/-- The five arrays that matter, among all of the TensorCore's. -/
abbrev S5 : Finset (DevRef τ sig) := {a', i', x', w', o'}

theorem S5_sub : S5 ⊆ Pipeline.ucRefs τ sig := by decide

theorem held_S5 (d : Dev nD) (W : Valuation τ sig (Elt F)) :
    (held (SparseCore.T d) S5 W : sProp 𝕄)
      = iprop((aLoc d ↦{fullShare} W a') ∗ (iLoc d ↦{fullShare} W i') ∗ (xLoc d ↦{fullShare} W x')
          ∗ (wLoc d ↦{fullShare} W w') ∗ oLoc d ↦{fullShare} W o') := by
  unfold held S5
  rw [SparseCore.bigSep_insert' (by decide), SparseCore.bigSep_insert' (by decide), SparseCore.bigSep_insert' (by decide),
    SparseCore.bigSep_insert' (by decide), bigSep_singleton]

/-- The arrays after the line: the five at the values above, and the others. -/
theorem held_after (d : Dev nD) :
    (held (SparseCore.T d) (Pipeline.ucRefs τ sig) (StableHlo.after (ops (F := F)) (V0 m d)) : sProp 𝕄)
      = iprop(((aLoc d ↦{fullShare} m (aLoc d)) ∗ (iLoc d ↦{fullShare} m (iLoc d)) ∗ xPts m d fullShare
          ∗ wPts m d fullShare ∗ oLoc d ↦{fullShare} m (oLoc d))
        ∗ held (SparseCore.T d) (Pipeline.ucRefs τ sig \ S5) (StableHlo.after (ops (F := F)) (V0 m d))) := by
  rw [StableHlo.held_sub_split (SparseCore.T d) S5_sub, held_S5, after_a, after_i, after_x, after_w, after_o]

end Cert.Proof.Launch

end
-- ==== Proof.Launch.lean ====
/-
  The whole run of `KernelIdeal`, over an arbitrary family `F` of float types: the call's split of its buffers over the
  SparseCores and their tiles, @main on the TensorCore, and the launch. At the end the result holds `res` everywhere:
  the tiles' windows cover it, so in write mode every element was marked.
-/
module

public import proofs.«01_k».proof.Proof.Tile
public import proofs.«01_k».proof.Proof.Host

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type} [FloatOps F]

local notation "𝕄" => MT nD τ sig (HIx 1) (Elt F) ℕ (UU F) ℕ

variable (m : (ℓ : Loc nD τ sig) → Buf (Elt F) ℓ) (ρ : Dev nD → PrngReg)

/-! ## The windows cover the result -/

theorem mem_win (c : Fin 2) (i : Fin 16) (j : S500000.Idx) :
    j ∈ win (pt c i) ↔ min (31360 * i.val + 15680 * c.val) 484320 ≤ (j 0).val
      ∧ (j 0).val < min (31360 * i.val + 15680 * c.val) 484320 + 15680 := by
  have e : k0_off1 (pt c i) = ![(min (31360 * i.val + 15680 * c.val) 484320)] := k0_off1_eq (pt c i)
  unfold win
  rw [Rect.mem_set_unit, e]
  constructor
  · intro h; exact h 0
  · intro h a
    match a with
    | ⟨0, _⟩ => exact h

theorem win_cover : (Finset.univ.biUnion fun c : Fin 2 => Finset.univ.biUnion fun i : Fin 16 => win (pt c i)) = Finset.univ := by
  refine Finset.eq_univ_iff_forall.mpr fun j => ?_
  have hj : (j 0).val < 500000 := (j 0).isLt
  refine Finset.mem_biUnion.mpr ⟨⟨(j 0).val / 15680 % 2, by omega⟩, Finset.mem_univ _,
    Finset.mem_biUnion.mpr ⟨⟨(j 0).val / 15680 / 2, by omega⟩, Finset.mem_univ _, ?_⟩⟩
  rw [mem_win]
  show min (31360 * ((j 0).val / 15680 / 2) + 15680 * ((j 0).val / 15680 % 2)) 484320 ≤ (j 0).val
      ∧ (j 0).val < min (31360 * ((j 0).val / 15680 / 2) + 15680 * ((j 0).val / 15680 % 2)) 484320 + 15680
  omega

/-! ## Sharing the three buffers -/

theorem shares (d : Dev nD) {n : ℕ} (hn : 0 < n) (q : PosShare TreeShare) (W : Fin n → Finset S500000.Idx) :
    (held3 m d q (Finset.univ.biUnion W) : sProp 𝕄) = bigSep Finset.univ fun k : Fin n => held3 m d (pieceOf q n hn k) (W k) := by
  have hx := pointsTo_piecesOf (Val := Elt F) (Ix := HIx 1) (Name := ℕ) (U := UU F) (Lvl := ℕ) (ℓ := xLoc d) Finset.univ
    (tab m d : Buf (Elt F) (xLoc d)) hn q
  have hw := pointsTo_piecesOf (Val := Elt F) (Ix := HIx 1) (Name := ℕ) (U := UU F) (Lvl := ℕ) (ℓ := wLoc d) Finset.univ
    (fl m d : Buf (Elt F) (wLoc d)) hn q
  have ho := WriteShares.willBeTo_piecesOf (Ix := HIx 1) (Name := ℕ) (Lvl := ℕ) (eW (F := F)) (ℓ := oLoc d) Finset.univ
    (m (oLoc d)) (tgt m d) hn q W
  unfold held3
  rw [bigSep_sep', bigSep_sep']
  exact congrArg₂ (fun A B : sProp 𝕄 => iprop(A ∗ B)) hx (congrArg₂ (fun A B : sProp 𝕄 => iprop(A ∗ B)) hw ho)

theorem shares_unmarked (d : Dev nD) {n : ℕ} (hn : 0 < n) (q : PosShare TreeShare) :
    (held3 m d q ∅ : sProp 𝕄) = bigSep Finset.univ fun k : Fin n => held3 m d (pieceOf q n hn k) ∅ := by
  have h := shares m d hn q (fun _ => ∅)
  rwa [show (Finset.univ.biUnion fun _ : Fin n => (∅ : Finset S500000.Idx)) = ∅ from
    Finset.eq_empty_of_forall_notMem fun i hi => by obtain ⟨_, _, h⟩ := Finset.mem_biUnion.mp hi; exact Finset.notMem_empty i h] at h

/-- A family over the call's tiles is one over the numbers below 16, one over its SparseCores one over the numbers below 2. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show held3 m d (cq (Fin.cast nCore_zero c)) ∅ ⊢ |={Set.univ}=> iprop(
      (bigSep Finset.univ fun i : Fin ((K (F := F)).nSub 0) => held3 m d (tq (Fin.cast nCore_zero c) (Fin.cast nSub_zero i)) ∅)
      ∗ ((bigSep Finset.univ fun i : Fin ((K (F := F)).nSub 0) =>
          held3 m d (tq (Fin.cast nCore_zero c) (Fin.cast nSub_zero i)) (win (pt (Fin.cast nCore_zero c) (Fin.cast nSub_zero i))))
        -∗ held3 m d (cq (Fin.cast nCore_zero c)) (Finset.univ.biUnion fun i : Fin 16 => win (pt (Fin.cast nCore_zero c) i))))
  rw [bigSep_tiles (F := F) (fun i => held3 m d (tq (Fin.cast nCore_zero c) i) ∅),
    bigSep_tiles (F := F) (fun i => held3 m d (tq (Fin.cast nCore_zero c) i) (win (pt (Fin.cast nCore_zero c) i))),
    shares m d (n := 16) (by decide) (cq (Fin.cast nCore_zero c)), shares_unmarked m d (n := 16) (by decide) (cq (Fin.cast nCore_zero c))]
  iintro H; imodintro
  isplitl [H]; · iexact H
  iintro H; iexact H

theorem st_eq (d : Dev nD) :
    (bigSep Finset.univ fun c : Fin ((K (F := F)).nCore 0) => (P m).st 0 d c) = held3 m d fullShare ∅ :=
  (bigSep_cores (F := F) (fun c => held3 m d (cq c) ∅)).trans (shares_unmarked m d (n := 2) (by decide) fullShare).symm

theorem dn_eq (d : Dev nD) :
    (bigSep Finset.univ fun c : Fin ((K (F := F)).nCore 0) => (P m).dn 0 d c) = held3 m d fullShare Finset.univ := by
  refine (bigSep_cores (F := F) (fun c => held3 m d (cq c) (Finset.univ.biUnion fun i : Fin 16 => win (pt c i)))).trans ?_
  rw [← win_cover]
  exact (shares m d (n := 2) (by decide) fullShare (fun c => Finset.univ.biUnion fun i : Fin 16 => win (pt c i))).symm

/-! ## The launch element: the handshakes' rounds, write mode's cells, no transfer -/

variable (F) in
def u₀ : UU F := (initOf (K (F := F)).hsCells (K (F := F)).hsToks, (wm₀ nD τ sig (Elt F), 1))

include ρ in
theorem hu₀ : (ownU (u₀ F) : sProp 𝕄)
    ⊢ |={Set.univ}=> iprop(BI.own (EH (F := F) (initOf (K (F := F)).hsCells (K (F := F)).hsToks)) ∗ (bigSep Finset.univ fun _ : Dev nD => wmOn (F := F))
        ∗ bigSep Finset.univ fun thr : Thread nD τ => bigSep Finset.univ fun q : Fin 1 => (P m).x q thr) := by
  unfold u₀
  iintro Hu
  ihave H := (ownU_pair _ _) $$ Hu
  icases H with ⟨HH, HW⟩
  ihave HW' := (show (BI.own ((embR : Emb (WM0 F × Counters) 𝕄) (wm₀ nD τ sig (Elt F), 1)) : sProp 𝕄) ⊢ ownU ((eW (F := F)) (wm₀ nD τ sig (Elt F)))
    from Entails.of_eq rfl) $$ HW
  imod (wmInv_alloc (Ix := HIx 1) (Lvl := ℕ) (Name := ℕ) (emb := eW (F := F)) ⟨m, fun _ => 0, ρ⟩) $$ HW' with ⟨%ι, -, #Hι⟩
  imodintro
  isplitl [HH]; · iexact HH
  ihave #Hon := (show wmInv (Ix := HIx 1) (Lvl := ℕ) (eW (F := F)) ι ⊢ (wmOn (F := F) : sProp 𝕄) from by iintro H; iexists ι; iexact H) $$ Hι
  isplitr
  · iapply (bigSep_of_persistent Finset.univ (wmOn (F := F))); iexact Hon
  · iapply (bigSep_intro_persistent (R := wmOn (F := F)) fun thr _ => bigSep_of_persistent Finset.univ (wmOn (F := F))); iexact Hon

/-! ## @main on the TensorCore -/

/-- What @main leaves the claims: the arguments as they were, the result at `res`. -/
abbrev FIN (d : Dev nD) : sProp 𝕄 :=
  iprop((aLoc d ↦{fullShare} m (aLoc d)) ∗ (iLoc d ↦{fullShare} m (iLoc d)) ∗ oLoc d ↦{fullShare} (res m d : Buf (Elt F) (oLoc d)))

theorem unscoped_held (d : Dev nD) :
    (unscopedBufs d (fun b => m ((SparseCore.T d).loc b)) : sProp 𝕄) = held (SparseCore.T d) (Pipeline.ucRefs τ sig) (V0 m d) :=
  Pipeline.unscopedBufs_held (Ix := HIx 1) (Name := ℕ) (U := UU F) (Lvl := ℕ) d (V0 m d)

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ wmOn (F := F))
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, #Hwm⟩
  icases Hwm with ⟨%ι, #Hι⟩
  iapply (StableHlo.wp_seq 𝒱 none Set.univ d (Pipeline.ucRefs τ sig) _ (ops (F := F))
    (fun op h => Pipeline.sub_ucRefs op (ops_bufs op h)) ops_fresh (V0 m d)) $$ [Hb Hheld]
  · isplitl [Hb] <;> iassumption
  iintro ⟨Hb, Hheld⟩
  ihave Hh := (Entails.of_eq (held_after m d)) $$ Hheld
  icases Hh with ⟨⟨Ha, Hi, Hx, Hw, Ho⟩, -⟩
  imod (pointsTo_castIn (Ix := HIx 1) (Name := ℕ) (Lvl := ℕ) (emb := eW (F := F)) (ιwm := ι) (tgt m d)) $$ [Ho] with Ho
  · isplitr; · iexact Hι
    iexact Ho
  simp only [wp_bind, wp_pure]
  iapply ((K (F := F)).wp_run (D (F := F)) 𝒱 (EH := EH) (P := P m) κ d 0) $$ [Hst Hx Hw Ho Hb Hts Ha Hi]
  isplitr; · iexact Hctx
  isplitl [Hst]; · iexact Hst
  isplitl [Hx Hw Ho]
  · rw [st_eq]
    isplitl [Hx]; · iexact Hx
    isplitl [Hw]; · iexact Hw
    iexact Ho
  iintro ⟨Hst, Hdn⟩
  ihave Hdn' := (Entails.of_eq (dn_eq m d)) $$ Hdn
  icases Hdn' with ⟨-, -, Ho⟩
  imod (willBeTo_castOut_some (Ix := HIx 1) (Name := ℕ) (Lvl := ℕ) (emb := eW (F := F)) (ιwm := ι) (ℓ := oLoc d) (I := Finset.univ)
    (f := m (oLoc d)) (g := (res m d : Buf (Elt F) (oLoc d))) (W := Finset.univ)) $$ [Ho] with Ho
  · isplitr; · iexact Hι
    iexact Ho
  rw [Finset.piecewise_univ]
  imodintro
  isplitl [Hst]; · iexact Hst
  isplitr [Hb Hts]
  · isplitl [Ha]; · iexact Ha
    isplitl [Hi]; · iexact Hi
    iexact Ho
  isplitl [Hb] <;> iassumption

/-- What the claims read of a final state. -/
def fq (d : Dev nD) (s' : Phys nD τ sig (Elt F)) : Prop :=
  s'.mem.mem (oLoc d) = (res m d : Buf (Elt F) (oLoc d)) ∧ s'.mem.mem (aLoc d) = m (aLoc d) ∧ s'.mem.mem (iLoc d) = m (iLoc d)

set_option maxRecDepth 16384 in
theorem hfin (d : Dev nD) (s' : Phys nD τ sig (Elt F)) : iprop(FIN m d ∗ SI s') ⊢ (⌜fq m d s'⌝ : sProp 𝕄) := by
  iintro ⟨⟨Ha, Hi, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%hi, HSI, -⟩
  ihave H := (SI_pointsTo_agree (st := s') (ℓ := oLoc d) (I := Finset.univ) (q := fullShare) (f := (res m d : Buf (Elt F) (oLoc d)))) $$ [HSI Ho]
  · isplitl [HSI] <;> iassumption
  icases H with %ho
  ipureintro
  exact ⟨funext fun j => ho j (Finset.mem_univ j), funext fun j => ha j (Finset.mem_univ j), funext fun j => hi j (Finset.mem_univ j)⟩

/-! ## The run -/

def QC : PUnit × MemSt nD τ sig (Elt F) → Prop := fun r =>
  (∀ c : Dev nD, r.2.mem (oLoc c) = (res m c : Buf (Elt F) (oLoc c)) ∧ r.2.mem (aLoc c) = m (aLoc c) ∧ r.2.mem (iLoc c) = m (iLoc c))
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => wmOn (F := F)) (FIN m) (u₀ F) (sep_elim_left.trans (hu₀ m ρ)) (hmain m ρ) (fq m) (hfin m) (QC m) (fun _ h hz => ⟨h, hz⟩)

end Cert.Proof.Launch

end
-- ==== Proof.Words.lean ====
/-
  The words: a pair `(r, c)` of numbers below 4096, packed by @main as `(r << 13) | c`, is rearranged by a tile into the
  position of `x[r, c]` in the table. So in range every rearranged word is a position in the table, and what every
  element of the result must hold is `x` at its index pair.
-/
module

public import proofs.«01_k».proof.Proof.Setup
public import proofs.«01_k».proof.Proof.Gen.Pre_in_range
public import Idealize.ShloMosaic.Lib.ReduceAll
public import Idealize.ShloMosaic.Lib.Pipeline.Value
public import Idealize.ShloMosaic.Lib.ValueIdxCore

@[expose] public section

noncomputable section

namespace Cert.Proof.Launch

open Cert.KernelIdeal Cert.KernelIdeal.Gen

open Idealize.ShloMosaic
open Idealize.ShloMosaic.ValueIdx

/-! ## The packing and the rearrangement of one word -/

/-- The rearrangement moves bits: the sixteen high ones stay, then bits 12 … 7, bits 15 … 13, bits 6 … 0. -/
theorem conv_bits (w : BitVec 32) :
    conv w = (w.extractLsb' 16 16 ++ (w.extractLsb' 7 6 ++ (w.extractLsb' 13 3 ++ w.extractLsb' 0 7)) : BitVec (16 + (6 + (3 + 7)))) := by
  refine BitVec.eq_of_getLsbD_eq fun i hi => ?_
  refine Eq.trans ?_ (show (w.extractLsb' 16 16 ++ (w.extractLsb' 7 6 ++ (w.extractLsb' 13 3 ++ w.extractLsb' 0 7))
      : BitVec (16 + (6 + (3 + 7)))).getLsbD i = _ from rfl)
  simp only [BitVec.getLsbD_append, BitVec.getLsbD_extractLsb']
  unfold conv
  simp only [IntOp.ori, IntOp.andi, IntOp.shli, IntOp.shrsi, BitVec.toNat_ofNat, Nat.reducePow, Nat.reduceMod, Nat.reduceLT,
    if_true, BitVec.sshiftRight', BitVec.shiftLeft_eq']
  interval_cases i <;>
    simp [BitVec.getElem_sshiftRight, BitVec.getLsbD_eq_getElem]

/-- The packing of two numbers below 4096. -/
theorem pack_toNat (r c : BitVec 32) (hr : r.toNat < 4096) (hc : c.toNat < 4096) :
    (IntOp.ori (IntOp.shli .host r 13#32) c).toNat = 8192 * r.toNat + c.toNat := by
  simp only [IntOp.ori, IntOp.shli, BitVec.toNat_ofNat, Nat.reducePow, Nat.reduceMod, Nat.reduceLT, if_true, BitVec.shiftLeft_eq']
  rw [BitVec.toNat_or, BitVec.toNat_shiftLeft, Nat.mod_eq_of_lt (by rw [Nat.shiftLeft_eq]; omega),
    ← Nat.shiftLeft_add_eq_or_of_lt (by omega), Nat.shiftLeft_eq]
  omega

theorem conv_toNat (w : BitVec 32) :
    (conv w).toNat = 65536 * (w.toNat / 65536) + (1024 * (w.toNat / 128 % 64) + (128 * (w.toNat / 8192 % 8) + w.toNat % 128)) := by
  have hw := w.isLt
  rw [conv_bits]
  refine Eq.trans (show (w.extractLsb' 16 16 ++ (w.extractLsb' 7 6 ++ (w.extractLsb' 13 3 ++ w.extractLsb' 0 7))
      : BitVec (16 + (6 + (3 + 7)))).toNat = _ from rfl) ?_
  rw [BitVec.toNat_append, ← Nat.shiftLeft_add_eq_or_of_lt (BitVec.isLt _),
    BitVec.toNat_append, ← Nat.shiftLeft_add_eq_or_of_lt (BitVec.isLt _),
    BitVec.toNat_append, ← Nat.shiftLeft_add_eq_or_of_lt (BitVec.isLt _)]
  simp only [BitVec.extractLsb'_toNat, Nat.shiftLeft_eq, Nat.shiftRight_eq_div_pow]
  omega

/-- The position of `x[r, c]` in the table. -/
theorem conv_pack (r c : BitVec 32) (hr : r.toNat < 4096) (hc : c.toNat < 4096) :
    (conv (IntOp.ori (IntOp.shli .host r 13#32) c)).toNat
      = ((r.toNat / 8 * 64 + c.toNat / 128) * 8 + r.toNat % 8) * 128 + c.toNat % 128 := by
  rw [conv_toNat, pack_toNat r c hr hc]
  omega

/-! ## The arrays -/

/-- Every index is a number below 4096. -/
def InRange (idx : IVec S500000x2 32) : Prop := ∀ i, (idx i).toNat < 4096

/-- The place of the row number, or of the column number, of index pair `j`. -/
abbrev at2 (j : S500000.Idx) (k : Fin 2) : S500000x2.Idx := ix2 (n0 := 500000) (n1 := 2) (j 0) k

/-- A column of the index pairs, as @main cuts it out and flattens it. -/
theorem column_apply (idx : IVec S500000x2 32) (k : Fin 2) (h : S500000x2.Slices ![0, k.val] S500000x1) (j : S500000.Idx) :
    shapeCast S500000 (extractStridedSlice S500000x1 ![0, k.val] idx h) shapeCasts_S500000x1_S500000 j = idx (at2 j k) := by
  rw [shapeCast_apply _ _ j (ix2 (n0 := 500000) (n1 := 1) (j 0) 0) (by
      rw [Shape.rowMajor_val_one, Shape.rowMajor_val_two]
      show (j 0).val * 1 + 0 = (j 0).val
      omega),
    extractStridedSlice_apply _ _ _ _ (at2 j k) (fun a => by
      match a with
      | ⟨0, _⟩ => exact (Nat.zero_add _).symm
      | ⟨1, _⟩ => rfl)]

variable {F : FTy → Type}
variable (m : (ℓ : Loc nD τ sig) → Buf (Elt F) ℓ)

/-- The index pairs. -/
abbrev idxOf (d : Dev nD) : IVec S500000x2 32 := m (iLoc d)

theorem fl_apply (d : Dev nD) (j : S500000.Idx) :
    fl m d j = IntOp.ori (IntOp.shli .host (idxOf m d (at2 j 0)) 13#32) (idxOf m d (at2 j 1)) := by
  have h0 := column_apply (idxOf m d) 0 slices_S500000x2_S500000x1_0_0 j
  have h1 := column_apply (idxOf m d) 1 slices_S500000x2_S500000x1_0_1 j
  exact congrArg₂ (fun a b => IntOp.ori (IntOp.shli .host a 13#32) b) h0 h1

/-- The table at the position of `x[r, c]`. -/
theorem tab_apply (d : Dev nD) (r : Fin 4096) (c : Fin 8192) (p : S33554432.Idx)
    (hp : (p 0).val = ((r.val / 8 * 64 + c.val / 128) * 8 + r.val % 8) * 128 + c.val % 128) :
    tab m d p = (m (aLoc d) : FVec F S4096x8192 .f32) (ix2 r c) := by
  have hr := r.isLt
  have hc := c.isLt
  unfold tab
  rw [shapeCast_apply _ _ p (ix4 (n0 := 512) (n1 := 64) (n2 := 8) (n3 := 128) ⟨r.val / 8, by omega⟩ ⟨c.val / 128, by omega⟩
      ⟨r.val % 8, by omega⟩ ⟨c.val % 128, by omega⟩) (by
        rw [Shape.rowMajor_val_one, Shape.rowMajor_val_four, hp]; rfl),
    transpose_apply _ _ _ _ (ix4 (n0 := 512) (n1 := 8) (n2 := 64) (n3 := 128) ⟨r.val / 8, by omega⟩ ⟨r.val % 8, by omega⟩
      ⟨c.val / 128, by omega⟩ ⟨c.val % 128, by omega⟩) (fun b => by
        match b with
        | ⟨0, _⟩ => rfl
        | ⟨1, _⟩ => rfl
        | ⟨2, _⟩ => rfl
        | ⟨3, _⟩ => rfl),
    shapeCast_apply _ _ _ (ix2 r c) (by
        rw [Shape.rowMajor_val_two, Shape.rowMajor_val_four]
        show r.val * 8192 + c.val = ((r.val / 8 * 8 + r.val % 8) * 64 + c.val / 128) * 128 + c.val % 128
        omega)]

/-- In range, every rearranged word is a position in the table. -/
theorem preOK_of_inRange (h : ∀ d, InRange (idxOf m d)) : PreOK m := by
  intro d j
  have h0 := h d (at2 j 0)
  have h1 := h d (at2 j 1)
  rw [fl_apply, conv_pack _ _ h0 h1]
  omega

/-- In range, what the result must hold is `x` at each index pair. -/
theorem res_apply (d : Dev nD) (h : InRange (idxOf m d)) (j : S500000.Idx) :
    res m d j = (m (aLoc d) : FVec F S4096x8192 .f32)
      (ix2 ⟨(idxOf m d (at2 j 0)).toNat, h _⟩ ⟨(idxOf m d (at2 j 1)).toNat, Nat.lt_trans (h _) (by decide)⟩) := by
  have h0 := h (at2 j 0)
  have h1 := h (at2 j 1)
  unfold res
  refine tab_apply m d _ _ _ ?_
  have e := conv_pack _ _ h0 h1
  rw [← fl_apply] at e
  have hlt : (conv (fl m d j)).toNat < 33554432 := by rw [e]; omega
  exact (Nat.mod_eq_of_lt hlt).trans e

/-- The precondition, `(0 ≤ idx) & (idx < 4096)` at every element, says so. -/
theorem inRange_of_pre (x : FVec F S4096x8192 .f32) [FloatOps F] (idx : IVec S500000x2 32)
    (h : Cert.Pre_in_range.fn (F := F) x idx = fun _ => 1#1) : InRange idx := by
  have andi_bits (p q : Bool) : IntOp.andi (BitVec.ofBool p) (BitVec.ofBool q) = BitVec.ofBool (p && q) := by
    cases p <;> cases q <;> decide
  have bit_eq_one (p : Bool) : (BitVec.ofBool p = 1#1) ↔ p = true := by cases p <;> decide
  have key : ∀ v : BitVec 32, IntOp.andi (IntOp.cmpi .sge v 0#32) (IntOp.cmpi .slt v 4096#32) = 1#1 → v.toNat < 4096 := by
    intro v e
    simp only [IntOp.cmpi, andi_bits, bit_eq_one, Bool.and_eq_true, BitVec.sle_eq_decide, BitVec.slt_eq_decide,
      decide_eq_true_eq, BitVec.toInt_eq_toNat_cond, BitVec.toNat_ofNat, Nat.reducePow, Nat.reduceMod] at e
    omega
  intro i
  have : Subsingleton Cert.Pre_in_range.S_.Idx := ⟨fun a b => funext fun k => k.elim0⟩
  exact key _ (Host.reduce_andi_all _ _ _ _ ix0 (congrFun h ix0) i)

end Cert.Proof.Launch

end
-- ==== Proof.Reference.lean ====
/-
  The reference's result. Its program takes the indices modulo 4096 (a remainder with its sign put right), lets a
  negative index count from the end, and gathers; so with every index in `[0, 4096)` both steps leave the indices
  alone, and element `j` of the result is `x` at index pair `j`.
-/
module

public import proofs.«01_k».proof.Proof.Words
public import proofs.«01_k».proof.Proof.Gen.ReferenceIdeal.Run

@[expose] public section

noncomputable section

namespace Cert.Proof.Reference

open Cert.ReferenceIdeal Cert.ReferenceIdeal.Gen Cert.ReferenceIdeal.Value
open Idealize.ShloMosaic Idealize.ShloMosaic.TcCoe Idealize.ShloMosaic.ValueIdx

/-! ## One word -/

section
variable (w : BitVec 32) (hw : w.toNat < 4096)
include hw

theorem remsi_small : IntOp.remsi .host w 4096#32 = w := by
  have h1 : ¬ IntOp.SDivCorner w 4096#32 := by
    rintro (h | ⟨-, h⟩)
    · exact absurd h (by decide)
    · exact absurd h (by decide)
  have hm : w.msb = false := by
    rw [BitVec.msb_eq_false_iff_two_mul_lt]; omega
  unfold IntOp.remsi
  rw [if_neg h1, BitVec.srem_eq, hm, show (4096#32).msb = false by decide]
  apply BitVec.eq_of_toNat_eq
  refine (BitVec.toNat_umod (x := w) (y := 4096#32)).trans ?_
  exact Nat.mod_eq_of_lt hw

theorem slt_small : IntOp.cmpi .slt w 0#32 = 0#1 := by
  have : w.slt 0#32 = false := by
    rw [BitVec.slt_eq_decide, BitVec.toInt_eq_toNat_cond, BitVec.toInt_eq_toNat_cond]
    simp only [BitVec.toNat_ofNat, decide_eq_false_iff_not]
    split <;> omega
  show BitVec.ofBool (w.slt 0#32) = 0#1
  rw [this]
  rfl

theorem toInt_small : w.toInt.toNat = w.toNat := by
  rw [BitVec.toInt_eq_toNat_cond]
  split <;> omega

/-- A remainder that is not negative needs no adjustment. -/
theorem adjust_small (N : BitVec 32) (e : BitVec 1) :
    Scalar.select (IntOp.andi (IntOp.cmpi .ne (IntOp.cmpi .slt w 0#32) 0#1) e) (IntOp.addi w N) w = w := by
  rw [slt_small w hw]
  have h : IntOp.andi (IntOp.cmpi .ne 0#1 0#1) e ≠ 1#1 := by
    revert e; decide
  exact if_neg h

/-- An index that is not negative does not count from the end. -/
theorem wrap_small (N : BitVec 32) : Scalar.select (IntOp.cmpi .slt w 0#32) (IntOp.addi w N) w = w := by
  rw [slt_small w hw]
  exact if_neg (by decide)
end

/-! ## The arrays -/

/-- The divisor the reference uses: 4096, unless that were 0. -/
abbrev den : IVec S_ 32 :=
  select (cmpi .eq (id (constantI S_ 32 4096#32)) (constantI S_ 32 0#32)) (constantI S_ 32 1#32) (id (constantI S_ 32 4096#32))

/-- A word at every place of the index pairs. -/
abbrev each {k : Nat} (v : IVec S_ k) : IVec S500000x2 k := broadcastInDim S500000x2 ![] bcast_S_S500000x2 v

/-- The indices modulo 4096, as the reference computes them. -/
def rem (y : IVec S500000x2 32) : IVec S500000x2 32 :=
  select
    (andi
      (cmpi .ne (cmpi .slt (Host.remsi y (each den)) (each (constantI S_ 32 0#32))) (each (cmpi .slt den (constantI S_ 32 0#32))))
      (cmpi .ne (Host.remsi y (each den)) (each (constantI S_ 32 0#32))))
    (addi (Host.remsi y (each den)) (each den))
    (Host.remsi y (each den))

/-- A column of the indices, a negative one counted from the end of an axis of `N` elements. -/
def wrap (v : IVec S500000 32) (N : BitVec 32) : IVec S500000x1 32 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 N))) v)

def col0 (y : IVec S500000x2 32) : IVec S500000 32 :=
  shapeCast S500000 (extractStridedSlice S500000x1 ![0, 0] y slices_S500000x2_S500000x1_0_0) shapeCasts_S500000x1_S500000

def col1 (y : IVec S500000x2 32) : IVec S500000 32 :=
  shapeCast S500000 (extractStridedSlice S500000x1 ![0, 1] y slices_S500000x2_S500000x1_0_1) shapeCasts_S500000x1_S500000

/-- The index pairs the reference gathers at. -/
def pairs (y : IVec S500000x2 32) : IVec S500000x2 32 :=
  concatenate S500000x2 1 [⟨S500000x1, wrap (col0 y) 4096#32⟩, ⟨S500000x1, wrap (col1 y) 8192#32⟩]
    concatenates_S500000x1_S500000x1_S500000x2_d1

/-- The place of the row number, or of the column number, of index pair `j`. -/
abbrev at2 (j : S500000.Idx) (k : Fin 2) : S500000x2.Idx := ix2 (n0 := 500000) (n1 := 2) (j 0) k

theorem rem_small (y : IVec S500000x2 32) (i : S500000x2.Idx) (h : (y i).toNat < 4096) : rem y i = y i := by
  have e : Host.remsi y (each den) i = y i := remsi_small (y i) h
  have hb : (cmpi .slt den (constantI S_ 32 0#32) : IVec S_ 1) ix0 = 0#1 := by decide
  show Scalar.select
      (IntOp.andi (IntOp.cmpi .ne (IntOp.cmpi .slt (Host.remsi y (each den) i) 0#32) 0#1)
        (IntOp.cmpi .ne (Host.remsi y (each den) i) 0#32))
      (IntOp.addi (Host.remsi y (each den) i) 4096#32) (Host.remsi y (each den) i) = y i
  rw [e]
  exact adjust_small (y i) h _ _

theorem col0_apply (y : IVec S500000x2 32) (j : S500000.Idx) : col0 y j = y (at2 j 0) :=
  Cert.Proof.Launch.column_apply y 0 slices_S500000x2_S500000x1_0_0 j

theorem col1_apply (y : IVec S500000x2 32) (j : S500000.Idx) : col1 y j = y (at2 j 1) :=
  Cert.Proof.Launch.column_apply y 1 slices_S500000x2_S500000x1_0_1 j

theorem wrap_apply (v : IVec S500000 32) (N : BitVec 32) (j : S500000.Idx) (h : (v j).toNat < 4096) :
    wrap v N (ix2 (n0 := 500000) (n1 := 1) (j 0) 0) = v j := by
  unfold wrap
  rw [broadcastInDim_apply _ _ _ _ j (fun a => by
    match a with
    | ⟨0, _⟩ => rfl)]
  exact wrap_small (v j) h N

theorem pairs_apply0 (y : IVec S500000x2 32) (j : S500000.Idx) (h : (y (at2 j 0)).toNat < 4096) :
    pairs y (at2 j 0) = y (at2 j 0) := by
  unfold pairs
  rw [concatenate_pair_apply_left (s₁ := S500000x1) (s₂ := S500000x1) _ _ _ _ (at2 j 0) rfl (ix2 (n0 := 500000) (n1 := 1) (j 0) 0) (fun b => by
    match b with
    | ⟨0, _⟩ => rfl
    | ⟨1, _⟩ => rfl)]
  rw [wrap_apply _ _ j (by rw [col0_apply]; exact h), col0_apply]

theorem pairs_apply1 (y : IVec S500000x2 32) (j : S500000.Idx) (h : (y (at2 j 1)).toNat < 4096) :
    pairs y (at2 j 1) = y (at2 j 1) := by
  unfold pairs
  rw [concatenate_pair_apply_right (s₁ := S500000x1) (s₂ := S500000x1) _ _ _ _ (at2 j 1) rfl rfl (ix2 (n0 := 500000) (n1 := 1) (j 0) 0) (fun b hb => by
    match b with
    | ⟨0, _⟩ => rfl
    | ⟨1, _⟩ => exact absurd rfl hb) rfl]
  rw [wrap_apply _ _ j (by rw [col1_apply]; exact h), col1_apply]

/-! ## The gather -/

section
variable {F : FTy → Type} [FloatOps F]

/-- The gather at one place: `x` at the index pair there, each index read as a number and kept inside its axis. -/
theorem gather_apply (x : FVec F S4096x8192 .f32) (p : IVec S500000x2 32) (j : S500000.Idx) (r : Fin 4096) (c : Fin 8192)
    (hr : min (p (at2 j 0)).toInt.toNat (4096 - 1) = r.val) (hc : min (p (at2 j 1)).toInt.toNat (8192 - 1) = c.val) :
    Host.gather gather_S4096x8192_S500000x2_S500000_n_01_n_n_01_1_11 x p j = x (ix2 r c) := by
  have place (a : Fin 2) (ha : a ∈ ([0, 1] : List (Fin 2))) (k : Fin 2) (hk : List.idxOf a ([0, 1] : List (Fin 2)) = k.val) :
      gather_S4096x8192_S500000x2_S500000_n_01_n_n_01_1_11.siIdx j ⟨List.idxOf a ([0, 1] : List (Fin 2)), List.idxOf_lt_length_iff.2 ha⟩ = at2 j k := by
    funext b
    refine Fin.ext ?_
    match b with
    | ⟨0, _⟩ => rfl
    | ⟨1, _⟩ => exact hk
  unfold Host.gather
  congr 1
  funext a
  refine Fin.ext ?_
  show gather_S4096x8192_S500000x2_S500000_n_01_n_n_01_1_11.start j p a
    + gather_S4096x8192_S500000x2_S500000_n_01_n_n_01_1_11.batchCoord j a
    + gather_S4096x8192_S500000x2_S500000_n_01_n_n_01_1_11.offCoord j a = (ix2 r c a).val
  have hmem : a ∈ ([0, 1] : List (Fin 2)) := by
    revert a; decide
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  refine (dif_pos (show a ∈ gather_S4096x8192_S500000x2_S500000_n_01_n_n_01_1_11.startIndexMap from hmem)).trans ?_
  match a with
  | ⟨0, _⟩ => exact (congrArg (fun i => min (p i).toInt.toNat (4096 - 1)) (place 0 (by decide) 0 rfl)).trans hr
  | ⟨1, _⟩ => exact (congrArg (fun i => min (p i).toInt.toNat (8192 - 1)) (place 1 (by decide) 1 rfl)).trans hc

/-- In range, the reference's result: `x` at each index pair. -/
theorem result_apply (m : (ℓ : Loc nD τ sig) → Buf (Elt F) ℓ) (c : Dev nD) (y : IVec S500000x2 32)
    (hy : y = m ((c.tc : Thread nD τ).loc main_arg1)) (h : ∀ i, (y i).toNat < 4096) (j : S500000.Idx) :
    res_main_v18 m c j = (m ((c.tc : Thread nD τ).loc main_arg0) : FVec F S4096x8192 .f32)
      (ix2 ⟨(y (at2 j 0)).toNat, h _⟩ ⟨(y (at2 j 1)).toNat, Nat.lt_trans (h _) (by decide)⟩) := by
  have e : res_main_v18 m c = Host.gather gather_S4096x8192_S500000x2_S500000_n_01_n_n_01_1_11
      (m ((c.tc : Thread nD τ).loc main_arg0)) (pairs (rem y)) := by
    subst hy
    rfl
  have h0 := h (at2 j 0)
  have h1 := h (at2 j 1)
  have e0 := rem_small y _ h0
  have e1 := rem_small y _ h1
  rw [e]
  refine gather_apply _ _ j _ _ ?_ ?_
  · rw [pairs_apply0 _ _ (by rw [e0]; exact h0), e0, toInt_small _ h0]
    show min _ _ = (y (at2 j 0)).toNat
    omega
  · rw [pairs_apply1 _ _ (by rw [e1]; exact h1), e1, toInt_small _ h1]
    show min _ _ = (y (at2 j 1)).toNat
    omega
end

end Cert.Proof.Reference

end
-- ==== Proof.lean ====
/-
  The proof of `Cert.Claim`: the five claims the statement certifies about the v06 kernel, put together from
  `Proof/Launch.lean` (the run of the kernel's program, at both readings of its floats), `Proof/Words.lean` (the
  precondition, and what the kernel's result holds), and `Proof/Reference.lean` (what the reference's result holds).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Words
public import proofs.«01_k».proof.Proof.Reference
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

/-- The kernel leaves its arguments as they were. -/
theorem frame_kernel : Cert.quiescent_Kernel := fun m ρ h =>
  (θ_run (Cert.Kernel.defs (F := Bits)) (Cert.Kernel.threads (F := Bits)) _).mono
    (fun _ hr => ⟨fun c => (hr.1 c).2, hr.2⟩)
    (Launch.run_main (F := Bits) m ρ (Launch.preOK_of_inRange m fun d => Launch.inRange_of_pre _ _ (h d)))

/-- So does the kernel over the extended reals. -/
theorem frame_ideal : Cert.quiescent_KernelIdeal := fun m ρ h =>
  (θ_run (Cert.KernelIdeal.defs (F := Ideal)) (Cert.KernelIdeal.threads (F := Ideal)) _).mono
    (fun _ hr => ⟨fun c => (hr.1 c).2, hr.2⟩)
    (Launch.run_main (F := Ideal) m ρ (Launch.preOK_of_inRange m fun d => Launch.inRange_of_pre _ _ (h d)))

/-- So does the reference. -/
theorem frame_reference : Cert.quiescent_ReferenceIdeal := fun m ρ _ =>
  (θ_run Cert.ReferenceIdeal.defs _ _).mono
    (fun r hr => ⟨fun c => (hr c).2, sem_eq_zero_of_no_sems (by decide) r.2⟩)
    (Cert.ReferenceIdeal.Value.run m ρ)

/-- So does the reference, under the kernel's precondition. -/
theorem frame_reference_pre : Cert.quiescent_ReferenceIdeal_pre_in_range := fun m ρ _ =>
  (θ_run Cert.ReferenceIdeal.defs _ _).mono
    (fun r hr => ⟨fun c => (hr c).2, sem_eq_zero_of_no_sems (by decide) r.2⟩)
    (Cert.ReferenceIdeal.Value.run m ρ)

/-- Over the extended reals the kernel's result is the reference's. -/
theorem agree : Cert.algebraic_KernelIdeal_ReferenceIdeal := by
  intro m ρ m' ρ' hpre hin
  have hr : ∀ d, Launch.InRange (Launch.idxOf m d) := fun d => Launch.inRange_of_pre _ _ (hpre d)
  refine ⟨fun c => Launch.res m c, ?_, ?_⟩
  · exact (θ_run (Cert.KernelIdeal.defs (F := Ideal)) (Cert.KernelIdeal.threads (F := Ideal)) _).mono
      (fun _ h => h.1)
      (Launch.run_main (F := Ideal) m ρ (Launch.preOK_of_inRange m hr))
  · refine (θ_run Cert.ReferenceIdeal.defs _ _).mono
      (fun r h c => ⟨(h c).1.trans ?_, (h c).2⟩)
      (Cert.ReferenceIdeal.Value.run m' ρ')
    funext j
    exact ((Reference.result_apply m' c (Launch.idxOf m c) (hin c).2.symm (hr c) j).trans (congrFun (hin c).1 _)).trans
      (Launch.res_apply m c (hr c) j).symm

theorem claim : Cert.Claim := ⟨Cert.Kernel.Gen.facts, Cert.KernelIdeal.Gen.facts, Cert.ReferenceIdeal.Gen.facts, Cert.Pre_in_range.Gen.facts,
  frame_kernel, frame_ideal, frame_reference, frame_reference_pre, trivial, agree⟩

end Cert.Proof

end
